-- ==== Defs.lean ====
def Pre_Kernel [hPre_ids_ascend : Cert.Pre_ids_ascend.Facts] (m : (ℓ : Loc Cert.Kernel.nD Cert.Kernel.τ Cert.Kernel.sig) → Buf (Elt Bits) ℓ) : Prop :=
  ∀ c : Dev Cert.Kernel.nD,
    (Cert.Pre_ids_ascend.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_ascend : Cert.Pre_ids_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ascend [hPre_ids_ascend : Cert.Pre_ids_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_ascend : Cert.Pre_ids_ascend.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_ascend : Cert.Pre_ids_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_ascend [hReferenceIdeal : Cert.ReferenceIdeal.Facts] [hPre_ids_ascend : Cert.Pre_ids_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_ascend : Cert.Pre_ids_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_ascend : Cert.Pre_ids_ascend.Facts),
    quiescent_Kernel (hKernel := hKernel) (hPre_ids_ascend := hPre_ids_ascend)
    ∧ quiescent_KernelIdeal (hKernelIdeal := hKernelIdeal) (hPre_ids_ascend := hPre_ids_ascend)
    ∧ quiescent_ReferenceIdeal (hReferenceIdeal := hReferenceIdeal)
    ∧ quiescent_ReferenceIdeal_pre_ids_ascend (hReferenceIdeal := hReferenceIdeal) (hPre_ids_ascend := hPre_ids_ascend)
    ∧ preserves_Kernel_KernelIdeal
    ∧ algebraic_KernelIdeal_ReferenceIdeal (hKernelIdeal := hKernelIdeal) (hReferenceIdeal := hReferenceIdeal) (hPre_ids_ascend := hPre_ids_ascend)
-- ==== Pre_ids_ascend.lean ====
abbrev S2x128x50304 : Shape := ⟨3, ![2, 128, 50304]⟩
abbrev S50304 : Shape := ⟨1, ![50304]⟩
abbrev S2x128x1280 : Shape := ⟨3, ![2, 128, 1280]⟩
abbrev S1280 : Shape := ⟨1, ![1280]⟩
abbrev S256x1280 : Shape := ⟨2, ![256, 1280]⟩
abbrev S256 : Shape := ⟨1, ![256]⟩
abbrev S_ : Shape := ⟨0, ![]⟩
abbrev S1 : Shape := ⟨1, ![1]⟩
abbrev S255 : Shape := ⟨1, ![255]⟩

class Facts : Prop where
  bcast_S_S1 : S_.BroadcastsInDim S1 (![] : Fin 0 → Fin S1.rank)
  slices_S256_S255_0 : S256.Slices ![0] S255
  concatenates_S1_S255_S256_d0 : Shape.Concatenates [S1, S255] S256 0

variable [Facts]

def fn {F : FTy → Type} [FloatOps F] (main_arg0 : FVec F S2x128x50304 .fp8e4m3) (main_arg1 : FVec F S50304 .f32) (main_arg2 : FVec F S2x128x1280 .fp8e4m3) (main_arg3 : FVec F S1280 .f32) (main_arg4 : FVec F S256x1280 .fp8e5m2) (main_arg5 : FVec F S256 .f32) (main_arg6 : IVec S256 32) : IVec S256 1 :=
  let main_c : IVec S_ 32 := constantI S_ 32 0#32
  let main_v0 : IVec S1 32 := broadcastInDim S1 ![] bcast_S_S1 main_c
  let main_v1 : IVec S255 32 := (extractStridedSlice S255 ![0] · slices_S256_S255_0) main_arg6
  let main_v2 : IVec S256 32 := (fun a b => concatenate S256 0 [⟨S1, a⟩, ⟨S255, b⟩] concatenates_S1_S255_S256_d0) main_v0 main_v1
  let main_v3 : IVec S256 1 := cmpi .sle main_v2 main_arg6
  main_v3
-- ==== Kernel.lean ====
abbrev S2x128x50304 : Shape := ⟨3, ![2, 128, 50304]⟩
abbrev S50304 : Shape := ⟨1, ![50304]⟩
abbrev S2x128x1280 : Shape := ⟨3, ![2, 128, 1280]⟩
abbrev S1280 : Shape := ⟨1, ![1280]⟩
abbrev S256x1280 : Shape := ⟨2, ![256, 1280]⟩
abbrev S256 : Shape := ⟨1, ![256]⟩
abbrev S256x50304 : Shape := ⟨2, ![256, 50304]⟩
abbrev S1x50304 : Shape := ⟨2, ![1, 50304]⟩
abbrev S1x1280 : Shape := ⟨2, ![1, 1280]⟩
abbrev S50304x1280 : Shape := ⟨2, ![50304, 1280]⟩
abbrev S256x1024 : Shape := ⟨2, ![256, 1024]⟩
abbrev S1x1024 : Shape := ⟨2, ![1, 1024]⟩
abbrev S1024x1280 : Shape := ⟨2, ![1024, 1280]⟩
abbrev S1 : Shape := ⟨1, ![1]⟩
abbrev S256x128 : Shape := ⟨2, ![256, 128]⟩
abbrev S128x1280 : Shape := ⟨2, ![128, 1280]⟩
abbrev S1x128 : Shape := ⟨2, ![1, 128]⟩
abbrev S128x128 : Shape := ⟨2, ![128, 128]⟩

abbrev nBuf : Space → Nat
  | .hbm => 11
  | .vmem => 10
  | .smem => 3
  | _ => 0

abbrev bufTy : (tb : Table) → Fin (tcTables nBuf tb) → BufTy
  | .hbm, ⟨0, _⟩ => ⟨S2x128x50304, .fp8e4m3⟩
  | .hbm, ⟨1, _⟩ => ⟨S50304, .f32⟩
  | .hbm, ⟨2, _⟩ => ⟨S2x128x1280, .fp8e4m3⟩
  | .hbm, ⟨3, _⟩ => ⟨S1280, .f32⟩
  | .hbm, ⟨4, _⟩ => ⟨S256x1280, .fp8e5m2⟩
  | .hbm, ⟨5, _⟩ => ⟨S256, .f32⟩
  | .hbm, ⟨6, _⟩ => ⟨S256x50304, .fp8e4m3⟩
  | .hbm, ⟨7, _⟩ => ⟨S1x50304, .f32⟩
  | .hbm, ⟨8, _⟩ => ⟨S256x1280, .fp8e4m3⟩
  | .hbm, ⟨9, _⟩ => ⟨S1x1280, .f32⟩
  | .hbm, ⟨10, _⟩ => ⟨S50304x1280, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1x1024, .f32⟩
  | .local _ .vmem, ⟨3, _⟩ => ⟨S1x1024, .f32⟩
  | .local _ .vmem, ⟨4, _⟩ => ⟨S256x1280, .fp8e4m3⟩
  | .local _ .vmem, ⟨5, _⟩ => ⟨S1x1280, .f32⟩
  | .local _ .vmem, ⟨6, _⟩ => ⟨S256x1280, .fp8e5m2⟩
  | .local _ .vmem, ⟨7, _⟩ => ⟨S1024x1280, .f32⟩
  | .local _ .vmem, ⟨8, _⟩ => ⟨S1024x1280, .f32⟩
  | .local _ .vmem, ⟨9, _⟩ => ⟨S256x1280, .f32⟩
  | .local _ .smem, ⟨0, _⟩ => ⟨S256, .i32⟩
  | .local _ .smem, ⟨1, _⟩ => ⟨S256, .f32⟩
  | .local _ .smem, ⟨2, _⟩ => ⟨S1, .i32⟩
  | _, _ => ⟨S2x128x50304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg6 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (arg11 : BitVec 32) : Fin 1 → Nat :=
  let c255_i32 : BitVec 32 := 255#32
  let v556 : BitVec 32 := Scalar.minsi arg11 c255_i32
  let v557 : Index := Scalar.indexCast v556
  ![v557.toNat]

def k0_chk1 (arg11 : BitVec 32) : Prop :=
  (∀ a, (k0_off1 arg11) a + S1.size a ≤ S256.size a)
theorem k0_off1_inb : ∀ (arg11 : BitVec 32) (k0_hw1 : k0_chk1 arg11), ∀ a, (k0_off1 arg11) a + S1.size a ≤ S256.size a := fun arg11 k0_hw1 => k0_hw1

def k0_off2 (arg11 : BitVec 32) : Fin 1 → Nat :=
  let v555 : Index := Scalar.indexCast arg11
  ![v555.toNat]

def k0_off3 (i : grid0.Coords) (v556 : BitVec 32) : Fin 2 → Nat :=
  let arg0 : BitVec 32 := BitVec.ofNat 32 (i 0).val
  let c1024_i32 : BitVec 32 := 1024#32
  let v551 : BitVec 32 := Scalar.muli arg0 c1024_i32
  let v557 : BitVec 32 := Scalar.subi v556 v551
  let v558 : Index := Scalar.indexCast v557
  let c0_196 : Index := 0#32
  ![v558.toNat, 0]

def k0_chk3 (i : grid0.Coords) (v556 : BitVec 32) : Prop :=
  (∀ a, (k0_off3 i v556) a + S1x1280.size a ≤ S1024x1280.size a)
theorem k0_off3_inb : ∀ (i : grid0.Coords) (v556 : BitVec 32) (k0_hw3 : k0_chk3 i v556), ∀ a, (k0_off3 i v556) a + S1x1280.size a ≤ S1024x1280.size a := fun i v556 k0_hw3 => k0_hw3

def k0_off4 (arg11 : BitVec 32) : Fin 2 → Nat :=
  let v561 : Index := Scalar.indexCast arg11
  let c0_197 : Index := 0#32
  ![v561.toNat, 0]
def k0_off5 (arg11 : BitVec 32) : Fin 1 → Nat :=
  let v563 : Index := Scalar.indexCast arg11
  ![v563.toNat]

def k0_chk2 (arg11 : BitVec 32) : Prop :=
  (∀ a, (k0_off2 arg11) a + S1.size a ≤ S256.size a) ∧
  (∀ a, (k0_off4 arg11) a + S1x1280.size a ≤ S256x1280.size a) ∧
  (∀ a, (k0_off5 arg11) a + S1.size a ≤ S256.size a)
theorem k0_off2_inb : ∀ (arg11 : BitVec 32) (k0_hw2 : k0_chk2 arg11), ∀ a, (k0_off2 arg11) a + S1.size a ≤ S256.size a := fun arg11 k0_hw2 => k0_hw2.1
theorem k0_off4_inb : ∀ (arg11 : BitVec 32) (k0_hw2 : k0_chk2 arg11), ∀ a, (k0_off4 arg11) a + S1x1280.size a ≤ S256x1280.size a := fun arg11 k0_hw2 => k0_hw2.2.1
theorem k0_off5_inb : ∀ (arg11 : BitVec 32) (k0_hw2 : k0_chk2 arg11), ∀ a, (k0_off5 arg11) a + S1.size a ≤ S256.size a := fun arg11 k0_hw2 => k0_hw2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1280 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x128x50304 : Shape := ⟨3, ![2, 128, 50304]⟩
abbrev S50304 : Shape := ⟨1, ![50304]⟩
abbrev S2x128x1280 : Shape := ⟨3, ![2, 128, 1280]⟩
abbrev S1280 : Shape := ⟨1, ![1280]⟩
abbrev S256x1280 : Shape := ⟨2, ![256, 1280]⟩
abbrev S256 : Shape := ⟨1, ![256]⟩
abbrev S50304x1280 : Shape := ⟨2, ![50304, 1280]⟩
abbrev S50304x1 : Shape := ⟨2, ![50304, 1]⟩
abbrev S1x1280 : Shape := ⟨2, ![1, 1280]⟩
abbrev S256x1 : Shape := ⟨2, ![256, 1]⟩
abbrev S_ : Shape := ⟨0, ![]⟩

abbrev nBuf : Space → Nat
  | .hbm => 25
  | .vmem => 6
  | .smem => 0
  | _ => 0

abbrev bufTy : (tb : Table) → Fin (tcTables nBuf tb) → BufTy
  | .hbm, ⟨0, _⟩ => ⟨S2x128x50304, .fp8e4m3⟩
  | .hbm, ⟨1, _⟩ => ⟨S50304, .f32⟩
  | .hbm, ⟨2, _⟩ => ⟨S2x128x1280, .fp8e4m3⟩
  | .hbm, ⟨3, _⟩ => ⟨S1280, .f32⟩
  | .hbm, ⟨4, _⟩ => ⟨S256x1280, .fp8e5m2⟩
  | .hbm, ⟨5, _⟩ => ⟨S256, .f32⟩
  | .hbm, ⟨6, _⟩ => ⟨S256, .i32⟩
  | .hbm, ⟨7, _⟩ => ⟨S2x128x50304, .f32⟩
  | .hbm, ⟨8, _⟩ => ⟨S2x128x1280, .f32⟩
  | .hbm, ⟨9, _⟩ => ⟨S256x1280, .f32⟩
  | .hbm, ⟨10, _⟩ => ⟨S50304x1280, .f32⟩
  | .hbm, ⟨11, _⟩ => ⟨S50304x1, .f32⟩
  | .hbm, ⟨12, _⟩ => ⟨S50304x1280, .f32⟩
  | .hbm, ⟨13, _⟩ => ⟨S50304x1280, .f32⟩
  | .hbm, ⟨14, _⟩ => ⟨S1x1280, .f32⟩
  | .hbm, ⟨15, _⟩ => ⟨S50304x1280, .f32⟩
  | .hbm, ⟨16, _⟩ => ⟨S50304x1280, .f32⟩
  | .hbm, ⟨17, _⟩ => ⟨S256x1, .f32⟩
  | .hbm, ⟨18, _⟩ => ⟨S256x1280, .f32⟩
  | .hbm, ⟨19, _⟩ => ⟨S256x1280, .f32⟩
  | .hbm, ⟨20, _⟩ => ⟨S_, .f32⟩
  | .hbm, ⟨21, _⟩ => ⟨S50304x1280, .f32⟩
  | .hbm, ⟨22, _⟩ => ⟨S256x1, .i32⟩
  | .hbm, ⟨23, _⟩ => ⟨S50304x1280, .f32⟩
  | .hbm, ⟨24, _⟩ => ⟨S50304x1280, .f32⟩
  | .local _ .vmem, ⟨0, _⟩ => ⟨S2x128x50304, .fp8e4m3⟩
  | .local _ .vmem, ⟨1, _⟩ => ⟨S2x128x1280, .fp8e4m3⟩
  | .local _ .vmem, ⟨2, _⟩ => ⟨S256x1280, .fp8e5m2⟩
  | .local _ .vmem, ⟨3, _⟩ => ⟨S2x128x50304, .f32⟩
  | .local _ .vmem, ⟨4, _⟩ => ⟨S2x128x1280, .f32⟩
  | .local _ .vmem, ⟨5, _⟩ => ⟨S256x1280, .f32⟩
  | _, _ => ⟨S2x128x50304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x50304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1280 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x50304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rows.lean ====
/-
  What is shared by every program of the certificate: the ascending embedding ids and how many of them lie below a
  bound, the machine words the row loop computes from them, and the table of 1024 rows the loop updates, as a function.
-/
module

public import Idealize.ShloMosaic.Lib.Pointwise.Index
public import Idealize.ShloMosaic.PureOps
public import Mathlib.Order.Interval.Finset.Fin

@[expose] public section

noncomputable section

namespace Cert.Rows

open Idealize.ShloMosaic

/-! ### The ids -/

/-- The ids are non-negative as signed words and in ascending order. -/
def Ascends (ids : (⟨1, ![256]⟩ : Shape).Idx → BitVec 32) : Prop :=
  (∀ n : Fin 256, (ids (ix1 n)).toNat < 2 ^ 31) ∧ ∀ a b : Fin 256, a ≤ b → (ids (ix1 a)).toNat ≤ (ids (ix1 b)).toNat

/-- How many of the ids lie below `B`. -/
def cnt (ids : (⟨1, ![256]⟩ : Shape).Idx → BitVec 32) (B : ℕ) : ℕ :=
  (Finset.univ.filter fun n : Fin 256 => (ids (ix1 n)).toNat < B).card

variable {ids : (⟨1, ![256]⟩ : Shape).Idx → BitVec 32}

/-- No more rows lie below a bound than there are rows. -/
theorem cnt_le (B : ℕ) : cnt ids B ≤ 256 := by
  unfold cnt; exact (Finset.card_le_univ _).trans (by simp)

/-- No row has an id below zero. -/
theorem cnt_zero : cnt ids 0 = 0 := by
  unfold cnt; simp

/-- The number of rows below a bound grows with the bound. -/
theorem cnt_mono {A B : ℕ} (h : A ≤ B) : cnt ids A ≤ cnt ids B := by
  unfold cnt
  refine Finset.card_le_card fun n hn => ?_
  simp only [Finset.mem_filter, Finset.mem_univ, true_and] at hn ⊢
  omega

/-- Of ascending ids those below `B` are the first `cnt ids B`. -/
theorem lt_cnt_iff (h : Ascends ids) (n : Fin 256) (B : ℕ) : n.val < cnt ids B ↔ (ids (ix1 n)).toNat < B := by
  unfold cnt
  constructor
  · intro hn
    by_contra hB
    have hsub : (Finset.univ.filter fun n : Fin 256 => (ids (ix1 n)).toNat < B) ⊆ Finset.Iio n := by
      intro k hk
      simp only [Finset.mem_filter, Finset.mem_univ, true_and] at hk
      rw [Finset.mem_Iio]
      by_contra hkn
      have := h.2 n k (not_lt.mp hkn)
      omega
    have := Finset.card_le_card hsub
    rw [Fin.card_Iio] at this
    omega
  · intro hB
    have hsub : Finset.Iic n ⊆ (Finset.univ.filter fun n : Fin 256 => (ids (ix1 n)).toNat < B) := by
      intro k hk
      rw [Finset.mem_Iic] at hk
      simp only [Finset.mem_filter, Finset.mem_univ, true_and]
      have := h.2 k n hk
      omega
    have := Finset.card_le_card hsub
    rw [Fin.card_Iic] at this
    omega

/-! ### The loop's words -/

/-- A signed comparison of two words below `2 ^ 31` is the comparison of their values. -/
theorem slt_iff (a b : BitVec 32) (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]
  omega

/-- The loop's test at pointer `j` and word `w` in block `i`: `j` is a row of the table and `w` lies below the block's end. -/
theorem test_iff (i j : ℕ) (hi : i < 50) (hj : j ≤ 256) (w : BitVec 32) (hw : w.toNat < 2 ^ 31) :
    Scalar.andi (Scalar.cmpi .slt (BitVec.ofNat 32 j) 256#32)
        (Scalar.cmpi .slt w (Scalar.addi (Scalar.muli (BitVec.ofNat 32 i) 1024#32) 1024#32)) = 1#1
      ↔ j < 256 ∧ w.toNat < 1024 * (i + 1) := by
  have hB : (Scalar.addi (Scalar.muli (BitVec.ofNat 32 i) 1024#32) 1024#32).toNat = 1024 * (i + 1) := by
    simp only [Scalar.addi, Scalar.muli, IntOp.addi, IntOp.muli, BitVec.toNat_add, BitVec.toNat_mul, BitVec.toNat_ofNat]
    omega
  have h1 := slt_iff (BitVec.ofNat 32 j) 256#32 (by rw [BitVec.toNat_ofNat]; omega) (by decide)
  have h2 := slt_iff w _ hw (by rw [hB]; omega)
  rw [hB] at h2
  rw [BitVec.toNat_ofNat, BitVec.toNat_ofNat, Nat.mod_eq_of_lt (by omega), Nat.mod_eq_of_lt (by omega)] at h1
  unfold Scalar.andi Scalar.cmpi IntOp.andi IntOp.cmpi
  dsimp only
  rw [← h1, ← h2]
  cases (BitVec.ofNat 32 j).slt 256#32 <;>
    cases w.slt (Scalar.addi (Scalar.muli (BitVec.ofNat 32 i) 1024#32) 1024#32) <;> decide

/-- The row the test reads: the pointer, kept below 256. -/
theorem min_toNat (j : ℕ) (hj : j ≤ 256) : (Scalar.minsi (BitVec.ofNat 32 j) 255#32).toNat = min j 255 := by
  have h := slt_iff (BitVec.ofNat 32 j) 255#32 (by rw [BitVec.toNat_ofNat]; omega) (by decide)
  rw [BitVec.toNat_ofNat, BitVec.toNat_ofNat, Nat.mod_eq_of_lt (by omega), Nat.mod_eq_of_lt (by omega)] at h
  unfold Scalar.minsi IntOp.minsi
  split
  · rename_i hs
    rw [h] at hs; rw [BitVec.toNat_ofNat]; omega
  · rename_i hs
    rw [h] at hs; rw [BitVec.toNat_ofNat]; omega

/-- The next pointer. -/
theorem next_ptr (j : ℕ) : Scalar.addi (BitVec.ofNat 32 j) 1#32 = BitVec.ofNat 32 (j + 1) := by
  unfold Scalar.addi IntOp.addi
  rw [BitVec.ofNat_add]

/-- The row of the block an id in it names: its distance from the block's start. -/
theorem row_toNat (i : ℕ) (hi : i < 50) (w : BitVec 32) (hw : 1024 * i ≤ w.toNat) :
    (Scalar.subi w (Scalar.muli (BitVec.ofNat 32 i) 1024#32)).toNat = w.toNat - 1024 * i := by
  have hB : (Scalar.muli (BitVec.ofNat 32 i) 1024#32).toNat = 1024 * i := by
    simp only [Scalar.muli, IntOp.muli, BitVec.toNat_mul, BitVec.toNat_ofNat]
    omega
  unfold Scalar.subi IntOp.subi
  rw [BitVec.toNat_sub_of_le (by rw [BitVec.le_def, hB]; exact hw), hB]

/-- The first-block test of the kernel. -/
theorem first_iff (i : ℕ) (hi : i < 50) :
    Scalar.cmpi .ne (Scalar.extui (Scalar.cmpi .eq (BitVec.ofNat 32 i) 0#32)) (0#32 : BitVec 32) = 1#1 ↔ i = 0 := by
  revert i; decide

/-! ### The table of rows -/

variable {F : FTy → Type} [FloatOps F]

/-- The table after embedding row `j`: table row `ids j - B` gets the embedding row, scaled, added; the other rows stay. -/
def rowStep (ids : (⟨1, ![256]⟩ : Shape).Idx → BitVec 32) (es : (⟨1, ![256]⟩ : Shape).Idx → Elt F .f32)
    (E : (⟨2, ![256, 1280]⟩ : Shape).Idx → Elt F .f32) (B j : ℕ) (T : (⟨2, ![1024, 1280]⟩ : Shape).Idx → Elt F .f32) :
    (⟨2, ![1024, 1280]⟩ : Shape).Idx → Elt F .f32 := fun y =>
  if h : j < 256 then
    if (y 0).val = (ids (ix1 ⟨j, h⟩)).toNat - B then
      FloatOps.addf (T y) (FloatOps.mulf (E (ix2 ⟨j, h⟩ (y 1))) (es (ix1 ⟨j, h⟩)))
    else T y
  else T y

/-- The table after the `k` embedding rows from `j` on, one after another. -/
def rows (ids : (⟨1, ![256]⟩ : Shape).Idx → BitVec 32) (es : (⟨1, ![256]⟩ : Shape).Idx → Elt F .f32)
    (E : (⟨2, ![256, 1280]⟩ : Shape).Idx → Elt F .f32) (B : ℕ) : (k j : ℕ) → ((⟨2, ![1024, 1280]⟩ : Shape).Idx → Elt F .f32) →
      (⟨2, ![1024, 1280]⟩ : Shape).Idx → Elt F .f32
  | 0, _, T => T
  | k + 1, j, T => rows ids es E B k (j + 1) (rowStep ids es E B j T)

end Cert.Rows

end
-- ==== Proof.K.While.lean ====
/-
  The row loop: entered at the pointer `j` in block `i`, it adds to the block the embedding rows whose ids lie below the
  block's end, and returns the pointer to the first row whose id does not.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.Rows

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop's calls count down by a natural number. -/
abbrev 𝒱₀ : Variants := Variants.nat

/-- The contents of a memref's buffer on core `c`. -/
abbrev Bf (c : Dev nD) {sp : Space} {S : Shape} {e : EltTy} (M : Memref sig .tc sp S e) : Type := Buf (Elt F) (M.view.loc (c : Thread nD τ))

/-- A memref's whole buffer held on core `c` at contents `f`. -/
abbrev pt (c : Dev nD) {sp : Space} {S : Shape} {e : EltTy} (M : Memref sig .tc sp S e) (f : Bf (F := F) c M) : sProp 𝕄 :=
  M.view.loc (c : Thread nD τ) ↦{fullShare} f

open Cert.Rows

/-- The contents of a table of words read at the one element of a unit rectangle. -/
theorem read_one {S : Shape} {e : EltTy} (M : Memref sig .tc .smem ⟨1, ![256]⟩ e) (f : M.view.ty.Contents (Elt F))
    (off : Fin 1 → ℕ) (inb : ∀ a, off a + S1.size a ≤ (⟨1, ![256]⟩ : Shape).size a) (k : Fin 256) (hk : off 0 = k.val) (hp : 0 < (Rect.unit (s := ⟨1, ![256]⟩) off S1.size inb).shape.numel) :
    M.view.readAt (Elt F) (Rect.unit (s := ⟨1, ![256]⟩) off S1.size inb).toLoadRect f (Shape.Idx.first hp) = M.view.read (Elt F) f (ix1 k) := by
  show M.view.read (Elt F) f ((Rect.unit (s := ⟨1, ![256]⟩) off S1.size inb).emb _) = _
  refine congrArg _ (funext fun a => Fin.ext ?_)
  obtain rfl : a = 0 := Fin.fin_one_eq_zero a
  show off 0 + 1 * (Shape.Idx.first hp 0).val = k.val
  have := (Shape.Idx.first hp 0).isLt
  have h1 : (Rect.unit (s := ⟨1, ![256]⟩) off S1.size inb).shape.size 0 = 1 := rfl
  omega

section Label

variable (c : Dev nD) (i : grid0.Coords) (M1 : Memref sig .tc .smem S256 .i32) (h1 : M1.IsWhole) (M2 : Memref sig .tc .smem S256 .f32) (h2 : M2.IsWhole)
    (M8 : Memref sig .tc .vmem S1024x1280 .f32) (h8 : M8.IsWhole) (M9 : Memref sig .tc .vmem S256x1280 .f32) (h9 : M9.IsWhole)
    (q : PosShare TreeShare) (f1 : Bf (F := F) c M1) (f2 : Bf (F := F) c M2) (f9 : Bf (F := F) c M9)

/-- The rows of block `i` after the `k` embedding rows from `j` on. -/
abbrev rowsOf (k j : ℕ) (T : S1024x1280.Idx → Elt F .f32) : S1024x1280.Idx → Elt F .f32 :=
  rows (M1.view.read (Elt F) f1) (M2.view.read (Elt F) f2) (M9.view.read (Elt F) f9) (1024 * (i 0).val) k j T

/-- What the loop reads and does not change: the ids, the scales, the embedding rows. -/
def held : sProp 𝕄 := iprop((M1.view.loc (c : Thread nD τ) ↦{q} f1) ∗ pt c M2 f2 ∗ pt c M9 f9)

/-- The loop's specification with `k` rows to add from `j` on: it returns the pointer `j + k`, what it reads as it was,
    and the block with the `k` rows added. -/
def spec (j k : ℕ) (f8 : Bf (F := F) c M8) : sWPT 𝕄 (BitVec 32) := do
  sWPT.consume iprop(held c M1 M2 M9 q f1 f2 f9 ∗ pt c M8 f8)
  let f8' ← sWPT.arbitrary
  sWPT.assume (M8.view.read (Elt F) f8' = rowsOf c i M1 M2 M9 f1 f2 f9 k j (M8.view.read (Elt F) f8))
  sWPT.produce iprop(held c M1 M2 M9 q f1 f2 f9 ∗ pt c M8 f8')
  pure (BitVec.ofNat 32 (j + k))

/-- What the loop's specification says at a cursor, spelled out. -/
theorem spec_apply (j k : ℕ) (f8 : Bf (F := F) c M8) (K : BitVec 32 → sProp 𝕄) :
    spec c i M1 M2 M8 M9 q f1 f2 f9 j k f8 K
      = iprop((held c M1 M2 M9 q f1 f2 f9 ∗ pt c M8 f8)
        ∗ ∀ f8' : Bf (F := F) c M8, ⌜M8.view.read (Elt F) f8' = rowsOf c i M1 M2 M9 f1 f2 f9 k j (M8.view.read (Elt F) f8)⌝
          -∗ ((held c M1 M2 M9 q f1 f2 f9 ∗ pt c M8 f8') -∗ K (BitVec.ofNat 32 (j + k)))) := rfl

/-- The first check of the loop holds at every pointer. -/
theorem chk1_of (j : ℕ) (hj : j ≤ 256) : k0_chk1 (BitVec.ofNat 32 j) := by
  intro a
  obtain rfl : a = 0 := Fin.fin_one_eq_zero a
  show (Scalar.minsi (BitVec.ofNat 32 j) 255#32).toNat + 1 ≤ 256
  rw [min_toNat j hj]; omega

/-- A cursor of at most 256 is read back unchanged from its 32-bit word. -/
theorem ofNat_toNat (j : ℕ) (hj : j ≤ 256) : (BitVec.ofNat 32 j).toNat = j := by
  rw [BitVec.toNat_ofNat]; omega

/-- The second check holds below 256. -/
theorem chk2_of (j : ℕ) (hj : j < 256) : k0_chk2 (BitVec.ofNat 32 j) := by
  have h := ofNat_toNat j hj.le
  refine ⟨fun a => ?_, fun a => ?_, fun a => ?_⟩
  · obtain rfl : a = 0 := Fin.fin_one_eq_zero a
    show (BitVec.ofNat 32 j).toNat + 1 ≤ 256
    omega
  · fin_cases a <;> [show (BitVec.ofNat 32 j).toNat + 1 ≤ 256; show 0 + 1280 ≤ 1280] <;> omega
  · obtain rfl : a = 0 := Fin.fin_one_eq_zero a
    show (BitVec.ofNat 32 j).toNat + 1 ≤ 256
    omega

/-- The row inside the tile is the id less the tile's first row. -/
theorem off3_0 (w : BitVec 32) (hw : 1024 * (i 0).val ≤ w.toNat) : k0_off3 i w 0 = w.toNat - 1024 * (i 0).val :=
  row_toNat (i 0).val (i 0).isLt w hw

/-- The third check holds of an id that lies in the block. -/
theorem chk3_of (w : BitVec 32) (hw : 1024 * (i 0).val ≤ w.toNat) (hw' : w.toNat < 1024 * ((i 0).val + 1)) : k0_chk3 i w := by
  intro a
  have h := off3_0 i w hw
  fin_cases a <;> [show k0_off3 i w 0 + 1 ≤ 1024; show 0 + 1280 ≤ 1280] <;> omega

variable {c M1 M2 M8 M9 f1 f2 f9} in
/-- Storing the loop's row is the step of the table. -/
theorem store_row (j : ℕ) (hj : j < 256) (f8 : Bf (F := F) c M8) (w : BitVec 32) (hw : w = M1.view.read (Elt F) f1 (ix1 ⟨j, hj⟩))
    (hle : 1024 * (i 0).val ≤ w.toNat) (hc2 : k0_chk2 (BitVec.ofNat 32 j)) (hc3 : k0_chk3 i w) (s : Elt F .f32) (hs : s = M2.view.read (Elt F) f2 (ix1 ⟨j, hj⟩)) :
    M8.view.read (Elt F) (M8.view.writes (Elt F) f8 [⟨Rect.unit (s := S1024x1280) (k0_off3 i w) S1x1280.size (k0_off3_inb i w hc3),
        k0_pay1 (M8.view.readAt (Elt F) (Rect.unit (s := S1024x1280) (k0_off3 i w) S1x1280.size (k0_off3_inb i w hc3)).toLoadRect f8)
          (M9.view.readAt (Elt F) (Rect.unit (s := S256x1280) (k0_off4 (BitVec.ofNat 32 j)) S1x1280.size (k0_off4_inb _ hc2)).toLoadRect f9) s⟩])
      = rowStep (M1.view.read (Elt F) f1) (M2.view.read (Elt F) f2) (M9.view.read (Elt F) f9) (1024 * (i 0).val) j (M8.view.read (Elt F) f8) := by
  have h3 := off3_0 i w hle
  rw [View.read_writes_cons_put _ _ _ _ _ rfl]
  funext y
  unfold VecWindow.put rowStep
  rw [dif_pos hj]
  by_cases hy : (y 0).val = w.toNat - 1024 * (i 0).val
  · have hall : ∀ a, k0_off3 i w a ≤ (y a).val ∧ (y a).val < k0_off3 i w a + S1x1280.size a := by
      intro a
      have h1 := (y 1).isLt
      fin_cases a
      · show k0_off3 i w 0 ≤ (y 0).val ∧ (y 0).val < k0_off3 i w 0 + 1
        omega
      · show 0 ≤ (y 1).val ∧ (y 1).val < 0 + 1280
        exact ⟨Nat.zero_le _, by rw [Nat.zero_add]; exact h1⟩
    rw [dif_pos hall, if_pos (by rw [← hw]; exact hy)]
    subst hs
    unfold k0_pay1
    dsimp only
    rw [shapeCast_self]
    have e8 : (Rect.unit (s := S1024x1280) (k0_off3 i w) S1x1280.size (k0_off3_inb i w hc3)).emb
        (Rect.unitLocal (s := S1024x1280) (off := k0_off3 i w) (size := S1x1280.size) y hall) = y := by
      funext a; apply Fin.ext
      show k0_off3 i w a + 1 * ((y a).val - k0_off3 i w a) = (y a).val
      have := hall a; omega
    have e9 : (Rect.unit (s := S256x1280) (k0_off4 (BitVec.ofNat 32 j)) S1x1280.size (k0_off4_inb _ hc2)).emb
        (Rect.unitLocal (s := S1024x1280) (off := k0_off3 i w) (size := S1x1280.size) y hall) = ix2 ⟨j, hj⟩ (y 1) := by
      funext a; apply Fin.ext
      have hj' := ofNat_toNat j hj.le
      fin_cases a
      · show (BitVec.ofNat 32 j).toNat + 1 * ((y 0).val - k0_off3 i w 0) = j
        omega
      · show 0 + 1 * ((y 1).val - 0) = (y 1).val
        omega
    exact congrArg₂ FloatOps.addf (congrArg (M8.view.read (Elt F) f8) e8) (congrArg₂ FloatOps.mulf (congrArg (M9.view.read (Elt F) f9) e9) rfl)
  · have hnot : ¬∀ a, k0_off3 i w a ≤ (y a).val ∧ (y a).val < k0_off3 i w a + S1x1280.size a := by
      intro h
      have h0 := h 0
      have : S1x1280.size 0 = 1 := rfl
      omega
    rw [dif_neg hnot, if_neg (by rw [← hw]; exact hy)]
    rfl

/-- The specification with `k` rows to add from `j` on is met by the loop's body entered at variant `k`: with no row left
    the test fails and the pointer is returned; otherwise the test passes, the id at the pointer lies in the block, its row
    is loaded, added to and stored, and the loop is entered again at the next pointer. -/
theorem spec_le (E : Set ℕ) (hA : Ascends (M1.view.read (Elt F) f1)) :
    ∀ k j, j + k = cnt (M1.view.read (Elt F) f1) (1024 * ((i 0).val + 1)) → cnt (M1.view.read (Elt F) f1) (1024 * (i 0).val) ≤ j →
      ∀ f8 K, spec c i M1 M2 M8 M9 q f1 f2 f9 j k f8 K
      ⊢ wp frame (wpE (defs₀ (F := F)) 𝒱₀ (c : Thread nD τ) (some k)) E
          (defs₀ (F := F) .tc 1 ⟨i, M1, h1, M8, h8, M9, h9, M2, h2, BitVec.ofNat 32 j⟩) K := by
  have hi : (i 0).val < 50 := (i 0).isLt
  intro k
  induction k with
  | zero =>
    intro j hj hjl f8 K
    have hjT : j ≤ 256 := by have := cnt_le (ids := M1.view.read (Elt F) f1) (1024 * ((i 0).val + 1)); omega
    rw [spec_apply]
    show _ ⊢ wp frame (wpE (defs₀ (F := F)) 𝒱₀ (c : Thread nD τ) (some 0)) E
      (cc0_while1 i M1 h1 M8 h8 M9 h9 M2 h2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨⟨H1, H2, H9⟩, H8⟩, Hk⟩
    iapply (wp_assume 𝒱₀ (c : Thread nD τ) (some 0) E (chk1_of j hjT))
    iapply (wp_load 𝒱₀ (c : Thread nD τ) (some 0) E (m := M1) (Finset.subset_univ _)) $$ H1; iintro H1
    rw [read_one (S := S256) M1 f1 _ _ ⟨min j 255, by omega⟩ (min_toNat j hjT)]
    have htest := test_iff (i 0).val j hi hjT (M1.view.read (Elt F) f1 (ix1 ⟨min j 255, by omega⟩)) (hA.1 _)
    rw [if_neg (by
      intro h
      have h := htest.mp h
      have h2 := (lt_cnt_iff hA ⟨min j 255, by omega⟩ (1024 * ((i 0).val + 1))).mpr h.2
      have h3 : min j 255 < cnt (M1.view.read (Elt F) f1) (1024 * ((i 0).val + 1)) := h2
      omega)]
    rw [wp_ret]; imodintro
    iapply Hk $$ %f8
    · ipureintro; rfl
    isplitl [H1 H2 H9]
    · isplitl [H1]; · iexact H1
      isplitl [H2]; · iexact H2
      iexact H9
    iexact H8
  | succ k ih =>
    intro j hj hjl f8 K
    have hjT : j < 256 := by have := cnt_le (ids := M1.view.read (Elt F) f1) (1024 * ((i 0).val + 1)); omega
    rw [spec_apply]
    show _ ⊢ wp frame (wpE (defs₀ (F := F)) 𝒱₀ (c : Thread nD τ) (some (k + 1))) E
      (cc0_while1 i M1 h1 M8 h8 M9 h9 M2 h2 (BitVec.ofNat 32 j)) K
    simp only [cc0_while1_eq_skeleton]; unfold cc0_while1_skel
    simp only [smemLoad, smemLoadElt, Prog.lift, Prog.bind_op, Prog.bind_ret, Prog.pure_eq_ret]
    have hlt : (M1.view.read (Elt F) f1 (ix1 ⟨j, hjT⟩)).toNat < 1024 * ((i 0).val + 1) := (lt_cnt_iff hA ⟨j, hjT⟩ _).mp (by show j < _; omega)
    have hge : 1024 * (i 0).val ≤ (M1.view.read (Elt F) f1 (ix1 ⟨j, hjT⟩)).toNat := by
      by_contra h
      have h2 := (lt_cnt_iff hA ⟨j, hjT⟩ (1024 * (i 0).val)).mpr (by omega)
      have h3 : j < cnt (M1.view.read (Elt F) f1) (1024 * (i 0).val) := h2
      omega
    unfold held
    iintro ⟨⟨⟨H1, H2, H9⟩, H8⟩, Hk⟩
    iapply (wp_assume 𝒱₀ (c : Thread nD τ) (some (k + 1)) E (chk1_of j hjT.le))
    iapply (wp_load 𝒱₀ (c : Thread nD τ) (some (k + 1)) E (m := M1) (Finset.subset_univ _)) $$ H1; iintro H1
    rw [read_one (S := S256) M1 f1 _ _ ⟨j, hjT⟩ ((min_toNat j hjT.le).trans (by show min j 255 = j; omega))]
    rw [if_pos ((test_iff (i 0).val j hi hjT.le (M1.view.read (Elt F) f1 (ix1 ⟨j, hjT⟩)) (hA.1 _)).mpr ⟨hjT, hlt⟩)]
    iapply (wp_assume 𝒱₀ (c : Thread nD τ) (some (k + 1)) E (chk2_of j hjT))
    iapply (wp_load 𝒱₀ (c : Thread nD τ) (some (k + 1)) E (m := M1) (Finset.subset_univ _)) $$ H1; iintro H1
    rw [read_one (S := S256) M1 f1 _ _ ⟨j, hjT⟩ (ofNat_toNat j hjT.le)]
    iapply (wp_assume 𝒱₀ (c : Thread nD τ) (some (k + 1)) E (chk3_of i _ hge hlt))
    iapply (wp_load 𝒱₀ (c : Thread nD τ) (some (k + 1)) E (m := M8) (Finset.subset_univ _)) $$ H8; iintro H8
    iapply (wp_load 𝒱₀ (c : Thread nD τ) (some (k + 1)) E (m := M9) (Finset.subset_univ _)) $$ H9; iintro H9
    iapply (wp_load 𝒱₀ (c : Thread nD τ) (some (k + 1)) E (m := M2) (Finset.subset_univ _)) $$ H2; iintro H2
    iapply (wp_load 𝒱₀ (c : Thread nD τ) (some (k + 1)) E (m := M8) (Finset.subset_univ _)) $$ H8; iintro H8
    iapply (wp_store_writes₀ 𝒱₀ (c : Thread nD τ) (some (k + 1)) E (m := M8) (f := f8)
      (r := Rect.unit (s := S1024x1280) (k0_off3 i (M1.view.read (Elt F) f1 (ix1 ⟨j, hjT⟩))) S1x1280.size (k0_off3_inb i _ (chk3_of i _ hge hlt)))
      (S := Finset.univ) (Finset.subset_univ _)) $$ H8; iintro H8
    rw [next_ptr j]
    iapply (wp_call_spec 𝒱₀ (c : Thread nD τ) (some (k + 1)) E (spec c i M1 M2 M8 M9 q f1 f2 f9 (j + 1) k _) k
      (fun u hu => by cases hu; exact Nat.lt_succ_self k)
      (ih (j + 1) (by omega) (by omega) _))
    rw [spec_apply]; unfold held
    isplitl [H1 H2 H9 H8]
    · isplitl [H1 H2 H9]
      · isplitl [H1]; · iexact H1
        isplitl [H2]; · iexact H2
        iexact H9
      iexact H8
    iintro %f8' %hf ⟨⟨H1, H2, H9⟩, H8⟩
    rw [wp_ret]; imodintro
    rw [store_row i j hjT f8 _ rfl hge (chk2_of j hjT) (chk3_of i _ hge hlt) _ (read_one (S := S256) M2 f2 _ _ ⟨j, hjT⟩ (ofNat_toNat j hjT.le) _)] at hf
    rw [show j + (k + 1) = j + 1 + k by omega]
    iapply Hk $$ %f8'
    · ipureintro; exact hf
    isplitl [H1 H2 H9]
    · isplitl [H1]; · iexact H1
      isplitl [H2]; · iexact H2
      iexact H9
    iexact H8

end Label

end Cert.Kernel.Own

end
-- ==== Proof.K.Run.lean ====
/-
  The kernel body up to its loop, executed once for an arbitrary grid point: first at the point where the scratch is filled,
  then at the others; and the block it stores, as a function of the body's operands.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.While

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rest of the body from the call of the loop on: the loop is entered at the pointer `v`, and the pointer it returns
    is stored. -/
noncomputable def tail (i : grid0.Coords) (M1 : Memref sig .tc .smem S256 .i32) (h1 : M1.IsWhole) (M2 : Memref sig .tc .smem S256 .f32) (h2 : M2.IsWhole)
    (M8 : Memref sig .tc .vmem S1024x1280 .f32) (h8 : M8.IsWhole) (M9 : Memref sig .tc .vmem S256x1280 .f32) (h9 : M9.IsWhole)
    (M10 : Memref sig .tc .smem S1 .i32) (v : BitVec 32) : Prog (TpuEff nD τ sig (Elt F) (Λ₀ F) .tc) PUnit :=
  .op (.call (1 : (Λ₀ F).Label) ⟨i, M1, h1, M8, h8, M9, h9, M2, h2, v⟩) fun v553 => do
    let _ ← smemLoad M10 (Rect.unit (s := S1) ![0] S1.size inb_S1_S1_0) numel1_S1 rfl
    Prog.lift (.store M10 (Rect.unit (s := S1) ![0] S1.size inb_S1_S1_0) (fun _ => v553) Finset.univ (View.stores_smem_one rfl numel1_S1) (.inl rfl))
    pure ⟨⟩

set_option maxHeartbeats 400000 in
/-- The body at the first grid point, up to the call of the loop: the embedding rows are widened into the scratch, the
    pointer is set to zero, and the 80 tiles of the block are stored. -/
noncomputable def runFirst (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    { W : List (View.Piece (Elt F) S1024x1280 .f32) × List (View.Piece (Elt F) S256x1280 .f32) × List (View.Piece (Elt F) S1 .i32) //
      ∀ (i : grid0.Coords)
    (hc : Scalar.cmpi .ne (Scalar.extui (Scalar.cmpi .eq (BitVec.ofNat 32 (i 0).val) 0#32)) (0#32 : BitVec 32) = 1#1)
    (M1 : Memref sig .tc .smem S256 .i32) (h1 : M1.IsWhole) (M2 : Memref sig .tc .smem S256 .f32) (h2 : M2.IsWhole)
     (h3 : M3.IsWhole)  (h4 : M4.IsWhole)
     (h5 : M5.IsWhole)  (h6 : M6.IsWhole)
     (h7 : M7.IsWhole) (M8 : Memref sig .tc .vmem S1024x1280 .f32) (h8 : M8.IsWhole)
    (M9 : Memref sig .tc .vmem S256x1280 .f32) (h9 : M9.IsWhole) (M10 : Memref sig .tc .smem S1 .i32) (h10 : M10.IsWhole)
     (f8 : Bf (F := F) c M8) (f9 : Bf (F := F) c M9) (f10 : Bf (F := F) c M10)
    (Q : PUnit → sProp 𝕄),
    iprop(pt c M3 f3 ∗ pt c M4 f4 ∗ pt c M5 f5 ∗ pt c M6 f6 ∗ pt c M7 f7 ∗ pt c M8 f8 ∗ pt c M9 f9 ∗ pt c M10 f10
      ∗ (pt c M3 f3 ∗ pt c M4 f4 ∗ pt c M5 f5 ∗ pt c M6 f6 ∗ pt c M7 f7 ∗ pt c M8 (M8.view.writes (Elt F) f8 W.1)
           ∗ pt c M9 (M9.view.writes (Elt F) f9 W.2.1) ∗ pt c M10 (M10.view.writes (Elt F) f10 W.2.2)
         -∗ wp frame (wpE (defs₀ (F := F)) 𝒱₀ c none) Set.univ
              (tail i M1 h1 M2 h2 M8 h8 M9 h9 M10 0#32) Q))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q } := by
  refine ⟨(?_, ?_, ?_), fun i hc M1 h1 M2 h2 h3 h4 h5 h6 h7 M8 h8 M9 h9 M10 h10 f8 f9 f10 Q => ?run⟩
  case run =>
    iintro ⟨H3, H4, H5, H6, H7, H8, H9, H10, Hk⟩
    sl_exec_parts (disch := exact hc)
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 400000 in
/-- The body at a later grid point, up to the call of the loop: the 80 tiles of the block are stored, and the pointer is
    read. -/
noncomputable def runLater (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    { W : List (View.Piece (Elt F) S1024x1280 .f32) //
      ∀ (i : grid0.Coords)
    (hc : ¬Scalar.cmpi .ne (Scalar.extui (Scalar.cmpi .eq (BitVec.ofNat 32 (i 0).val) 0#32)) (0#32 : BitVec 32) = 1#1)
    (M1 : Memref sig .tc .smem S256 .i32) (h1 : M1.IsWhole) (M2 : Memref sig .tc .smem S256 .f32) (h2 : M2.IsWhole)
     (h3 : M3.IsWhole)  (h4 : M4.IsWhole)
     (h5 : M5.IsWhole)  (h6 : M6.IsWhole)
     (h7 : M7.IsWhole) (M8 : Memref sig .tc .vmem S1024x1280 .f32) (h8 : M8.IsWhole)
    (M9 : Memref sig .tc .vmem S256x1280 .f32) (h9 : M9.IsWhole) (M10 : Memref sig .tc .smem S1 .i32) (h10 : M10.IsWhole)
     (f8 : Bf (F := F) c M8) (f9 : Bf (F := F) c M9) (f10 : Bf (F := F) c M10)
    (Q : PUnit → sProp 𝕄),
    iprop(pt c M3 f3 ∗ pt c M4 f4 ∗ pt c M5 f5 ∗ pt c M6 f6 ∗ pt c M7 f7 ∗ pt c M8 f8 ∗ pt c M9 f9 ∗ pt c M10 f10
      ∗ (pt c M3 f3 ∗ pt c M4 f4 ∗ pt c M5 f5 ∗ pt c M6 f6 ∗ pt c M7 f7 ∗ pt c M8 (M8.view.writes (Elt F) f8 W)
           ∗ pt c M9 f9 ∗ pt c M10 f10
         -∗ wp frame (wpE (defs₀ (F := F)) 𝒱₀ c none) Set.univ
              (tail i M1 h1 M2 h2 M8 h8 M9 h9 M10 ((M10.access (Rect.unit (s := S1) ![0] S1.size inb_S1_S1_0)).read (Elt F) f10 (Shape.Idx.first (numel1_S1.symm ▸ Nat.one_pos)))) Q))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q } := by
  refine ⟨?_, fun i hc M1 h1 M2 h2 h3 h4 h5 h6 h7 M8 h8 M9 h9 M10 h10 f8 f9 f10 Q => ?run⟩
  case run =>
    iintro ⟨H3, H4, H5, H6, H7, H8, H9, H10, Hk⟩
    sl_exec_parts (disch := exact hc)
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ### The tiles: tile `k` is row tile `k / 10`, column tile `k % 10`. -/

/-- Each of the 80 sub-tiles lies inside the 1024x1280 block. -/
theorem inb_tile (k : Fin 80) (a : Fin 2) : (![128 * (k.val / 10), 128 * (k.val % 10)] : Fin 2 → ℕ) a + S128x128.size a ≤ S1024x1280.size a := by
  fin_cases a <;> [show 128 * (k.val / 10) + 128 ≤ 1024; show 128 * (k.val % 10) + 128 ≤ 1280] <;> omega

/-- The 128 columns that a sub-tile reads of the activations lie inside their 1280. -/
theorem sl_x (k : Fin 80) : (S128x1280).Slices ![0, 128 * (k.val % 10)] S128x128 :=
  ⟨rfl, fun a => by fin_cases a <;> [show 0 + 128 ≤ 128; show 128 * (k.val % 10) + 128 ≤ 1280] <;> omega⟩
theorem sl_s (k : Fin 80) : (S1x1280).Slices ![0, 128 * (k.val % 10)] S1x128 :=
  ⟨rfl, fun a => by fin_cases a <;> [show 0 + 1 ≤ 1; show 128 * (k.val % 10) + 128 ≤ 1280] <;> omega⟩
theorem inb_d (k : Fin 80) (a : Fin 2) : (![0, 128 * (k.val / 10)] : Fin 2 → ℕ) a + S256x128.size a ≤ S256x1024.size a := by
  fin_cases a <;> [show 0 + 256 ≤ 256; show 128 * (k.val / 10) + 128 ≤ 1024] <;> omega
theorem inb_s (k : Fin 80) (a : Fin 2) : (![0, 128 * (k.val / 10)] : Fin 2 → ℕ) a + S1x128.size a ≤ S1x1024.size a := by
  fin_cases a <;> [show 0 + 1 ≤ 1; show 128 * (k.val / 10) + 128 ≤ 1024] <;> omega

/-- What is stored at tile `k`: the product of the tile's columns of `D` with the tile's columns of `X`, scaled by rows and by columns. -/
def tileVal (D : S256x1024.Idx → Elt F .fp8e4m3) (DS : S1x1024.Idx → Elt F .f32) (X : S256x1280.Idx → Elt F .fp8e4m3)
    (XS : S1x1280.Idx → Elt F .f32) (k : Fin 80) : FVec F S128x128 .f32 :=
  mulf (mulf (extractStridedSlice S128x128 ![0, 128 * (k.val % 10)]
      (k0_pay5 X (VecWindow.window D ![0, 128 * (k.val / 10)] S256x128.size (inb_d k))) (sl_x k))
    (k0_pay6 (VecWindow.window DS ![0, 128 * (k.val / 10)] S1x128.size (inb_s k))))
    (broadcastTo S128x128 (extractStridedSlice S1x128 ![0, 128 * (k.val % 10)] (k0_pay4 XS) (sl_s k)) broadcasts_S1x128_S128x128)

set_option maxHeartbeats 400000 in
/-- The tiles stored at the first point. -/
theorem first_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    (runFirst c M3 M4 M5 M6 M7 f3 f4 f5 f6 f7).1.1 = View.tilePieces (Val := Elt F) (e := .f32) (s := S1024x1280) S128x128.size (fun k : Fin 80 => ![128 * (k.val / 10), 128 * (k.val % 10)]) inb_tile
      (tileVal (M3.view.read (Elt F) f3) (M4.view.read (Elt F) f4)
       (VecWindow.window (M5.view.read (Elt F) f5) ![0,0] S256x1280.size inb_S256x1280_S256x1280_0_0)
       (VecWindow.window (M6.view.read (Elt F) f6) ![0,0] S1x1280.size inb_S1x1280_S1x1280_0_0)) 80 (le_refl _) := by
  rfl

set_option maxHeartbeats 400000 in
/-- The tiles stored at a later point. -/
theorem later_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    (runLater c M3 M4 M5 M6 M7 f3 f4 f5 f6 f7).1 = View.tilePieces (Val := Elt F) (e := .f32) (s := S1024x1280) S128x128.size (fun k : Fin 80 => ![128 * (k.val / 10), 128 * (k.val % 10)]) inb_tile
      (tileVal (M3.view.read (Elt F) f3) (M4.view.read (Elt F) f4)
       (VecWindow.window (M5.view.read (Elt F) f5) ![0,0] S256x1280.size inb_S256x1280_S256x1280_0_0)
       (VecWindow.window (M6.view.read (Elt F) f6) ![0,0] S1x1280.size inb_S1x1280_S1x1280_0_0)) 80 (le_refl _) := by
  rfl

/-- What the scratch of embedding rows holds after the first point: the widened rows. -/
theorem nine_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2) (M9 : Memref sig .tc .vmem S256x1280 .f32)
    (f3 : Bf (F := F) c M3) (f4 : Bf (F := F) c M4) (f5 : Bf (F := F) c M5)
    (f6 : Bf (F := F) c M6) (f7 : Bf (F := F) c M7) (f9 : Bf (F := F) c M9) :
    M9.view.read (Elt F) (M9.view.writes (Elt F) f9 (runFirst c M3 M4 M5 M6 M7 f3 f4 f5 f6 f7).1.2.1)
      = extf (s := S256x1280) .f32 (M7.view.read (Elt F) f7) bitsLt_fp8e5m2_f32 := by
  have h : (runFirst c M3 M4 M5 M6 M7 f3 f4 f5 f6 f7).1.2.1
      = [⟨Rect.unit (s := S256x1280) ![0, 0] S256x1280.size inb_S256x1280_S256x1280_0_0,
          k0_pay2 (M7.view.readAt (Elt F) (Rect.unit (s := S256x1280) ![0, 0] S256x1280.size inb_S256x1280_S256x1280_0_0).toLoadRect f7)⟩] := rfl
  rw [h, View.read_writes_full]
  unfold k0_pay2
  dsimp only
  rw [shapeCast_self, View.readAt_full]

/-- The block as the tiles leave it, entry by entry. -/
def head (D : S256x1024.Idx → Elt F .fp8e4m3) (DS : S1x1024.Idx → Elt F .f32) (X : S256x1280.Idx → Elt F .fp8e4m3)
    (XS : S1x1280.Idx → Elt F .f32) : S1024x1280.Idx → Elt F .f32 := fun y =>
  tileVal D DS X XS ⟨10 * ((y 0).val / 128) + (y 1).val / 128, by
      have h0 : (y 0).val < 1024 := (y 0).isLt
      have h1 : (y 1).val < 1280 := (y 1).isLt
      omega⟩
    (ix2 ⟨(y 0).val % 128, Nat.mod_lt _ (by decide)⟩ ⟨(y 1).val % 128, Nat.mod_lt _ (by decide)⟩)

/-- A tile among the first `j` is one of their pieces, and every piece is such a tile. -/
theorem mem_tilePieces (P : Fin 80 → S128x128.Idx → Elt F .f32) (p : View.Piece (Elt F) S1024x1280 .f32) :
    ∀ (j : ℕ) (hj : j ≤ 80), p ∈ View.tilePieces (Val := Elt F) (e := .f32) (s := S1024x1280) S128x128.size (fun k : Fin 80 => ![128 * (k.val / 10), 128 * (k.val % 10)]) inb_tile P j hj
      ↔ ∃ k : Fin 80, k.val < j ∧ p = ⟨Rect.unit (s := S1024x1280) ![128 * (k.val / 10), 128 * (k.val % 10)] S128x128.size (inb_tile k), P k⟩
  | 0, _ => by simp [View.tilePieces]
  | j + 1, hj => by
    rw [View.tilePieces_succ, List.mem_cons, mem_tilePieces P p j (Nat.le_of_succ_le hj)]
    constructor
    · rintro (h | ⟨k, hk, h⟩)
      · exact ⟨⟨j, hj⟩, Nat.lt_succ_self j, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨j, hj⟩ := Fin.ext hk
        exact .inl h

/-- The block the tiles leave, whatever was in it before. -/
theorem read_tiles (M8 : Memref sig .tc .vmem S1024x1280 .f32) (f8 : M8.view.ty.Contents (Elt F))
    (D : S256x1024.Idx → Elt F .fp8e4m3) (DS : S1x1024.Idx → Elt F .f32) (X : S256x1280.Idx → Elt F .fp8e4m3) (XS : S1x1280.Idx → Elt F .f32) :
    M8.view.read (Elt F) (M8.view.writes (Elt F) f8 (View.tilePieces (Val := Elt F) (e := .f32) (s := S1024x1280) S128x128.size (fun k : Fin 80 => ![128 * (k.val / 10), 128 * (k.val % 10)]) inb_tile
      (tileVal D DS X XS) 80 (le_refl _))) = head D DS X XS := by
  funext y
  refine View.read_writes_apply_of_pieces _ _ (head D DS X XS) _ ?_ y ?_
  · intro p hp x
    obtain ⟨k, hk, rfl⟩ := (mem_tilePieces _ p 80 (le_refl _)).mp hp
    have x0 : (x 0).val < 128 := (x 0).isLt
    have x1 : (x 1).val < 128 := (x 1).isLt
    have e0 : ((Rect.unit (s := S1024x1280) ![128 * (k.val / 10), 128 * (k.val % 10)] S128x128.size (inb_tile k)).emb x 0).val = 128 * (k.val / 10) + (x 0).val :=
      (by rw [Nat.one_mul] : 128 * (k.val / 10) + 1 * (x 0).val = 128 * (k.val / 10) + (x 0).val)
    have e1 : ((Rect.unit (s := S1024x1280) ![128 * (k.val / 10), 128 * (k.val % 10)] S128x128.size (inb_tile k)).emb x 1).val = 128 * (k.val % 10) + (x 1).val :=
      (by rw [Nat.one_mul] : 128 * (k.val % 10) + 1 * (x 1).val = 128 * (k.val % 10) + (x 1).val)
    unfold head
    have hk' : (⟨10 * (((Rect.unit (s := S1024x1280) ![128 * (k.val / 10), 128 * (k.val % 10)] S128x128.size (inb_tile k)).emb x 0).val / 128)
        + ((Rect.unit (s := S1024x1280) ![128 * (k.val / 10), 128 * (k.val % 10)] S128x128.size (inb_tile k)).emb x 1).val / 128, by omega⟩ : Fin 80) = k :=
      Fin.ext (by show 10 * (_ / 128) + _ / 128 = k.val; rw [e0, e1]; omega)
    have hx : (ix2 ⟨((Rect.unit (s := S1024x1280) ![128 * (k.val / 10), 128 * (k.val % 10)] S128x128.size (inb_tile k)).emb x 0).val % 128, Nat.mod_lt _ (by decide)⟩
        ⟨((Rect.unit (s := S1024x1280) ![128 * (k.val / 10), 128 * (k.val % 10)] S128x128.size (inb_tile k)).emb x 1).val % 128, Nat.mod_lt _ (by decide)⟩ : S128x128.Idx) = x := by
      funext a; apply Fin.ext
      fin_cases a
      · show _ % 128 = (x 0).val
        rw [e0]; omega
      · show _ % 128 = (x 1).val
        rw [e1]; omega
    exact (congrArg₂ (fun k x => tileVal D DS X XS k x) hk' hx).symm
  · have h0 : (y 0).val < 1024 := (y 0).isLt
    have h1 : (y 1).val < 1280 := (y 1).isLt
    refine ⟨_, (mem_tilePieces _ _ 80 (le_refl _)).mpr ⟨⟨10 * ((y 0).val / 128) + (y 1).val / 128, by omega⟩, by show 10 * _ + _ < 80; omega, rfl⟩, ?_⟩
    rw [Rect.mem_set_unit]
    intro a
    fin_cases a
    · show 128 * ((10 * ((y 0).val / 128) + (y 1).val / 128) / 10) ≤ (y 0).val ∧ (y 0).val < 128 * ((10 * ((y 0).val / 128) + (y 1).val / 128) / 10) + 128
      omega
    · show 128 * ((10 * ((y 0).val / 128) + (y 1).val / 128) % 10) ≤ (y 1).val ∧ (y 1).val < 128 * ((10 * ((y 0).val / 128) + (y 1).val / 128) % 10) + 128
      omega

end Cert.Kernel.Own

end
-- ==== Proof.K.Body.lean ====
/-
  The kernel body, whole: from its operands' contents to the block it leaves, with the loop answered by its specification.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.Run

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows

variable {F : FTy → Type} [FloatOps F]

local notation "𝕄" => MT nD τ sig Unit (Elt F) ℕ (UR sig nD τ) ℕ

section Body

variable (c : Dev nD) (i : grid0.Coords) (M1 : Memref sig .tc .smem S256 .i32) (h1 : M1.IsWhole) (M2 : Memref sig .tc .smem S256 .f32) (h2 : M2.IsWhole)
    (M3 : Memref sig .tc .vmem S256x1024 .fp8e4m3) (h3 : M3.IsWhole) (M4 : Memref sig .tc .vmem S1x1024 .f32) (h4 : M4.IsWhole)
    (M5 : Memref sig .tc .vmem S256x1280 .fp8e4m3) (h5 : M5.IsWhole) (M6 : Memref sig .tc .vmem S1x1280 .f32) (h6 : M6.IsWhole)
    (M7 : Memref sig .tc .vmem S256x1280 .fp8e5m2) (h7 : M7.IsWhole)
    (M8 : Memref sig .tc .vmem S1024x1280 .f32) (h8 : M8.IsWhole) (M9 : Memref sig .tc .vmem S256x1280 .f32) (h9 : M9.IsWhole)
    (M10 : Memref sig .tc .smem S1 .i32) (h10 : M10.IsWhole)
    (q : PosShare TreeShare) (f1 : Bf (F := F) c M1) (f2 : Bf (F := F) c M2)

/-- The rest of the body from the loop on: entered at the number of ids below the block, it adds the rows of the ids in
    the block and leaves the number of ids below the block's end in the pointer. -/
theorem tail_le (hA : Ascends (M1.view.read (Elt F) f1)) (f8 : Bf (F := F) c M8) (f9 : Bf (F := F) c M9) (f10 : Bf (F := F) c M10)
    (v : BitVec 32) (hv : v = BitVec.ofNat 32 (cnt (M1.view.read (Elt F) f1) (1024 * (i 0).val))) (Q : PUnit → sProp 𝕄) :
    iprop((held c M1 M2 M9 q f1 f2 f9 ∗ pt c M8 f8) ∗ pt c M10 f10
      ∗ (∀ f8' : Bf (F := F) c M8, ∀ f10' : Bf (F := F) c M10,
          ⌜M8.view.read (Elt F) f8' = rowsOf c i M1 M2 M9 f1 f2 f9
              (cnt (M1.view.read (Elt F) f1) (1024 * ((i 0).val + 1)) - cnt (M1.view.read (Elt F) f1) (1024 * (i 0).val))
              (cnt (M1.view.read (Elt F) f1) (1024 * (i 0).val)) (M8.view.read (Elt F) f8)⌝
          -∗ ⌜M10.view.read (Elt F) f10' = fun _ => BitVec.ofNat 32 (cnt (M1.view.read (Elt F) f1) (1024 * ((i 0).val + 1)))⌝
          -∗ ((held c M1 M2 M9 q f1 f2 f9 ∗ pt c M8 f8') ∗ pt c M10 f10') -∗ Q ⟨⟩))
    ⊢ wp frame (wpE (defs₀ (F := F)) 𝒱₀ c none) Set.univ (tail i M1 h1 M2 h2 M8 h8 M9 h9 M10 v) Q := by
  subst hv
  have hm : cnt (M1.view.read (Elt F) f1) (1024 * (i 0).val) ≤ cnt (M1.view.read (Elt F) f1) (1024 * ((i 0).val + 1)) := cnt_mono (by omega)
  unfold tail
  simp only [smemLoad, smemLoadElt, Prog.lift, Prog.bind_op, Prog.bind_ret, Prog.pure_eq_ret]
  iintro ⟨H, H10, Hk⟩
  iapply (wp_call_spec 𝒱₀ (c : Thread nD τ) none Set.univ
    (spec c i M1 M2 M8 M9 q f1 f2 f9 (cnt (M1.view.read (Elt F) f1) (1024 * (i 0).val))
      (cnt (M1.view.read (Elt F) f1) (1024 * ((i 0).val + 1)) - cnt (M1.view.read (Elt F) f1) (1024 * (i 0).val)) f8)
    (cnt (M1.view.read (Elt F) f1) (1024 * ((i 0).val + 1)) - cnt (M1.view.read (Elt F) f1) (1024 * (i 0).val))
    (fun u hu => nomatch hu)
    (spec_le c i M1 h1 M2 h2 M8 h8 M9 h9 q f1 f2 f9 Set.univ hA _ _ (by omega) (le_refl _) f8))
  rw [spec_apply]
  isplitl [H]; · iexact H
  iintro %f8' %hf8 H
  rw [Nat.add_sub_cancel' hm]
  iapply (wp_load 𝒱₀ (c : Thread nD τ) none Set.univ (m := M10) (Finset.subset_univ _)) $$ H10; iintro H10
  iapply (wp_store_writes₀ 𝒱₀ (c : Thread nD τ) none Set.univ (m := M10) (f := f10)
      (r := Rect.unit (s := S1) ![0] S1.size inb_S1_S1_0) (S := Finset.univ) (Finset.subset_univ _)) $$ H10; iintro H10
  rw [wp_ret]; imodintro
  iapply Hk $$ %f8' %(M10.view.writes (Elt F) f10 [⟨Rect.unit (s := S1) ![0] S1.size inb_S1_S1_0,
    fun _ => BitVec.ofNat 32 (cnt (M1.view.read (Elt F) f1) (1024 * ((i 0).val + 1)))⟩])
  · ipureintro; exact hf8
  · ipureintro; exact View.read_writes_full ..
  isplitl [H]; · iexact H
  iexact H10

/-- The block the body leaves: the tiles, then the rows of the ids in the block added. -/
def block (i : grid0.Coords) (ids : S256.Idx → Elt F .i32) (es : S256.Idx → Elt F .f32) (D : S256x1024.Idx → Elt F .fp8e4m3)
    (DS : S1x1024.Idx → Elt F .f32) (X : S256x1280.Idx → Elt F .fp8e4m3) (XS : S1x1280.Idx → Elt F .f32)
    (EC : S256x1280.Idx → Elt F .fp8e5m2) : S1024x1280.Idx → Elt F .f32 :=
  rows ids es (extf (s := S256x1280) .f32 EC bitsLt_fp8e5m2_f32) (1024 * (i 0).val) (cnt ids (1024 * ((i 0).val + 1)) - cnt ids (1024 * (i 0).val))
    (cnt ids (1024 * (i 0).val)) (head D DS X XS)

/-- The body at any point: if after the first point the scratch holds the widened embedding rows and the pointer the number
    of ids below the block, it leaves the block, the widened rows and the number of ids below the block's end. -/
theorem body_le (hA : Ascends (M1.view.read (Elt F) f1)) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (hst : (i 0).val ≠ 0 → M9.view.read (Elt F) f9 = extf (s := S256x1280) .f32 (M7.view.read (Elt F) f7) bitsLt_fp8e5m2_f32
      ∧ M10.view.read (Elt F) f10 = fun _ => BitVec.ofNat 32 (cnt (M1.view.read (Elt F) f1) (1024 * (i 0).val))) (Q : PUnit → sProp 𝕄) :
    iprop((M1.view.loc (c : Thread nD τ) ↦{q} f1) ∗ pt c M2 f2 ∗ pt c M3 f3 ∗ pt c M4 f4 ∗ pt c M5 f5 ∗ pt c M6 f6 ∗ pt c M7 f7 ∗ pt c M8 f8 ∗ pt c M9 f9 ∗ pt c M10 f10
      ∗ (∀ f8' : Bf (F := F) c M8, ∀ f9' : Bf (F := F) c M9, ∀ f10' : Bf (F := F) c M10,
          ⌜M8.view.read (Elt F) f8' = block i (M1.view.read (Elt F) f1) (M2.view.read (Elt F) f2) (M3.view.read (Elt F) f3)
              (M4.view.read (Elt F) f4) (M5.view.read (Elt F) f5) (M6.view.read (Elt F) f6) (M7.view.read (Elt F) f7)⌝
          -∗ ⌜M9.view.read (Elt F) f9' = extf (s := S256x1280) .f32 (M7.view.read (Elt F) f7) bitsLt_fp8e5m2_f32⌝
          -∗ ⌜M10.view.read (Elt F) f10' = fun _ => BitVec.ofNat 32 (cnt (M1.view.read (Elt F) f1) (1024 * ((i 0).val + 1)))⌝
          -∗ ((M1.view.loc (c : Thread nD τ) ↦{q} f1) ∗ pt c M2 f2 ∗ pt c M3 f3 ∗ pt c M4 f4 ∗ pt c M5 f5 ∗ pt c M6 f6 ∗ pt c M7 f7 ∗ pt c M8 f8' ∗ pt c M9 f9' ∗ pt c M10 f10')
          -∗ Q ⟨⟩))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q := by
  have hi : (i 0).val < 50 := (i 0).isLt
  have x5 : VecWindow.window (M5.view.read (Elt F) f5) ![0,0] S256x1280.size inb_S256x1280_S256x1280_0_0 = M5.view.read (Elt F) f5 :=
    (View.readAt_unit M5.view f5 inb_S256x1280_S256x1280_0_0 rfl inb_S256x1280_S256x1280_0_0).symm.trans (View.readAt_full M5.view f5 inb_S256x1280_S256x1280_0_0)
  have x6 : VecWindow.window (M6.view.read (Elt F) f6) ![0,0] S1x1280.size inb_S1x1280_S1x1280_0_0 = M6.view.read (Elt F) f6 :=
    (View.readAt_unit M6.view f6 inb_S1x1280_S1x1280_0_0 rfl inb_S1x1280_S1x1280_0_0).symm.trans (View.readAt_full M6.view f6 inb_S1x1280_S1x1280_0_0)
  by_cases h0 : (i 0).val = 0
  · iintro ⟨H1, H2, H3, H4, H5, H6, H7, H8, H9, H10, Hk⟩
    iapply ((runFirst c M3 M4 M5 M6 M7 f3 f4 f5 f6 f7).2 i ((first_iff _ hi).mpr h0) M1 h1 M2 h2 h3 h4 h5 h6 h7 M8 h8 M9 h9 M10 h10 f8 f9 f10 Q)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H3, H4, H5, H6, H7, H8, H9, H10⟩
    iapply (tail_le c i M1 h1 M2 h2 M8 h8 M9 h9 M10 q f1 f2 hA _ _ _ _ (by rw [h0, Nat.mul_zero, cnt_zero]) Q)
    isplitl [H1 H2 H9 H8]
    · unfold held
      isplitl [H1 H2 H9]
      · isplitl [H1]; · iexact H1
        isplitl [H2]; · iexact H2
        iexact H9
      iexact H8
    isplitl [H10]; · iexact H10
    iintro %f8' %f10' %hf8 %hf10 H
    unfold held
    icases H with ⟨⟨⟨H1, H2, H9⟩, H8⟩, H10⟩
    iapply Hk $$ %f8' %(M9.view.writes (Elt F) f9 (runFirst c M3 M4 M5 M6 M7 f3 f4 f5 f6 f7).1.2.1) %f10'
    · ipureintro
      rw [hf8, first_eq, read_tiles, x5, x6]
      unfold rowsOf block
      rw [nine_eq]
    · ipureintro; exact nine_eq ..
    · ipureintro; exact hf10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · obtain ⟨hf9, hf10⟩ := hst h0
    iintro ⟨H1, H2, H3, H4, H5, H6, H7, H8, H9, H10, Hk⟩
    iapply ((runLater c M3 M4 M5 M6 M7 f3 f4 f5 f6 f7).2 i (fun h => h0 ((first_iff _ hi).mp h)) M1 h1 M2 h2 h3 h4 h5 h6 h7 M8 h8 M9 h9 M10 h10 f8 f9 f10 Q)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H3, H4, H5, H6, H7, H8, H9, H10⟩
    iapply (tail_le c i M1 h1 M2 h2 M8 h8 M9 h9 M10 q f1 f2 hA _ _ _ _ (congrFun hf10 _) Q)
    isplitl [H1 H2 H9 H8]
    · unfold held
      isplitl [H1 H2 H9]
      · isplitl [H1]; · iexact H1
        isplitl [H2]; · iexact H2
        iexact H9
      iexact H8
    isplitl [H10]; · iexact H10
    iintro %f8' %f10' %hf8 %hf10' H
    unfold held
    icases H with ⟨⟨⟨H1, H2, H9⟩, H8⟩, H10⟩
    iapply Hk $$ %f8' %f9 %f10'
    · ipureintro
      rw [hf8, later_eq, read_tiles, x5, x6]
      unfold rowsOf block
      rw [hf9]
    · ipureintro; exact hf9
    · ipureintro; exact hf10'
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.Kernel.Own

end
-- ==== Proof.K.Point.lean ====
/-
  One grid point: the body from its operands owned at given contents and the state carried between points to the block it
  leaves and the state at the next point.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.Body

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows

variable {F : FTy → Type} [FloatOps F]

local notation "𝕄" => MT nD τ sig Unit (Elt F) ℕ (UR sig nD τ) ℕ

/-- A whole memref owned at contents read as `X` is its buffer held at contents read as `X`. -/
theorem owns_pt (c : Dev nD) {sp : Space} {s : Shape} {e : EltTy} (M : Memref sig .tc sp s e) (h : M.IsWhole) (X : s.Idx → Elt F e) :
    (owns (c : Thread nD τ) M fullShare X : sProp 𝕄) ⊣⊢ iprop(∃ f : Bf (F := F) c M, ⌜M.view.read (Elt F) f = X⌝ ∗ pt c M f) := by
  obtain ⟨b, hsp, hsh, he, h⟩ := h
  subst hsp hsh he
  obtain rfl := eq_of_heq h
  rw [owns_whole_eq]
  simp only [Memref.view_whole, View.read_whole]
  exact .rfl

/-- What is carried from point to point: before point `n` (after the first) the scratch holds the widened embedding rows
    and the pointer the number of ids below block `n`; the table of ids and the generator register stay. -/
def carried (c : Dev nD) (ids : S256.Idx → Elt F .i32) (EC : S256x1280.Idx → Elt F .fp8e5m2) (n : ℕ) : sProp 𝕄 :=
  iprop(∃ f9 : Buf (Elt F) ((c : Thread nD τ).loc cc0_scratch0), ∃ f10 : Buf (Elt F) ((c : Thread nD τ).loc cc0_scratch1),
    ⌜n ≠ 0 → f9 = extf (s := S256x1280) .f32 EC bitsLt_fp8e5m2_f32 ∧ f10 = fun _ => BitVec.ofNat 32 (cnt ids (1024 * n))⌝
    ∗ (((c : Thread nD τ).loc cc0_scratch0) ↦{fullShare} f9) ∗ (((c : Thread nD τ).loc cc0_scratch1) ↦{fullShare} f10)
    ∗ (∃ r, prngReg c r) ∗ (((c : Thread nD τ).loc main_arg6) ↦{fullShare.right} ids))

/-- The body at a point of the grid. -/
theorem point_le (c : Dev nD) (i : grid0.Coords) (M2 : Memref sig .tc .smem S256 .f32) (h2 : M2.IsWhole)
    (M3 : Memref sig .tc .vmem S256x1024 .fp8e4m3) (h3 : M3.IsWhole) (M4 : Memref sig .tc .vmem S1x1024 .f32) (h4 : M4.IsWhole)
    (M5 : Memref sig .tc .vmem S256x1280 .fp8e4m3) (h5 : M5.IsWhole) (M6 : Memref sig .tc .vmem S1x1280 .f32) (h6 : M6.IsWhole)
    (M7 : Memref sig .tc .vmem S256x1280 .fp8e5m2) (h7 : M7.IsWhole) (M8 : Memref sig .tc .vmem S1024x1280 .f32) (h8 : M8.IsWhole)
    (ids : S256.Idx → Elt F .i32) (hA : Ascends ids) (ES : S256.Idx → Elt F .f32) (D : S256x1024.Idx → Elt F .fp8e4m3)
    (DS : S1x1024.Idx → Elt F .f32) (X : S256x1280.Idx → Elt F .fp8e4m3) (XS : S1x1280.Idx → Elt F .f32)
    (EC : S256x1280.Idx → Elt F .fp8e5m2) (Y : S1024x1280.Idx → Elt F .f32) (Q : PUnit → sProp 𝕄) :
    iprop(carried c ids EC (i 0).val ∗ owns (c : Thread nD τ) M2 fullShare ES ∗ owns (c : Thread nD τ) M3 fullShare D
      ∗ owns (c : Thread nD τ) M4 fullShare DS ∗ owns (c : Thread nD τ) M5 fullShare X ∗ owns (c : Thread nD τ) M6 fullShare XS
      ∗ owns (c : Thread nD τ) M7 fullShare EC ∗ owns (c : Thread nD τ) M8 fullShare Y
      ∗ ((carried c ids EC ((i 0).val + 1) ∗ owns (c : Thread nD τ) M2 fullShare ES ∗ owns (c : Thread nD τ) M3 fullShare D
        ∗ owns (c : Thread nD τ) M4 fullShare DS ∗ owns (c : Thread nD τ) M5 fullShare X ∗ owns (c : Thread nD τ) M6 fullShare XS
        ∗ owns (c : Thread nD τ) M7 fullShare EC ∗ owns (c : Thread nD τ) M8 fullShare (block i ids ES D DS X XS EC)) -∗ Q ⟨⟩))
    ⊢ wp frame (wpE (defs₀ (F := F)) 𝒱₀ c none) Set.univ
        (cc0_tied_embedding_weight_grad i (Memref.whole main_arg6) (Memref.isWhole_whole _) M2 h2 M3 h3 M4 h4 M5 h5 M6 h6 M7 h7 M8 h8
          (Memref.whole cc0_scratch0) (Memref.isWhole_whole _) (Memref.whole cc0_scratch1) (Memref.isWhole_whole _)) Q := by
  iintro ⟨HC, H2, H3, H4, H5, H6, H7, H8, Hk⟩
  unfold carried
  icases HC with ⟨%f9, %f10, %hst, H9, H10, Hg, H1⟩
  icases (owns_pt c M2 h2 ES).1 $$ H2 with ⟨%f2, %e2, H2⟩
  icases (owns_pt c M3 h3 D).1 $$ H3 with ⟨%f3, %e3, H3⟩
  icases (owns_pt c M4 h4 DS).1 $$ H4 with ⟨%f4, %e4, H4⟩
  icases (owns_pt c M5 h5 X).1 $$ H5 with ⟨%f5, %e5, H5⟩
  icases (owns_pt c M6 h6 XS).1 $$ H6 with ⟨%f6, %e6, H6⟩
  icases (owns_pt c M7 h7 EC).1 $$ H7 with ⟨%f7, %e7, H7⟩
  icases (owns_pt c M8 h8 Y).1 $$ H8 with ⟨%f8, %e8, H8⟩
  subst e2 e3 e4 e5 e6 e7 e8
  iapply (body_le c i (Memref.whole main_arg6) (Memref.isWhole_whole _) M2 h2 M3 h3 M4 h4 M5 h5 M6 h6 M7 h7 M8 h8
    (Memref.whole cc0_scratch0) (Memref.isWhole_whole _) (Memref.whole cc0_scratch1) (Memref.isWhole_whole _) fullShare.right ids f2 hA f3 f4 f5 f6 f7 f8 f9 f10
    hst Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %f8' %f9' %f10' %e8 %e9 %e10 ⟨H1, H2, H3, H4, H5, H6, H7, H8, H9, H10⟩
  iapply Hk
  isplitl [H1 H9 H10 Hg]
  · iexists f9'; iexists f10'
    isplitr
    · ipureintro; exact fun _ => ⟨e9, e10⟩
    isplitl [H9]; · iexact H9
    isplitl [H10]; · iexact H10
    isplitl [Hg]; · iexact Hg
    iexact H1
  isplitl [H2]; · iapply (owns_pt c M2 h2 _).2; iexists f2; isplitr; (· ipureintro; rfl); iexact H2
  isplitl [H3]; · iapply (owns_pt c M3 h3 _).2; iexists f3; isplitr; (· ipureintro; rfl); iexact H3
  isplitl [H4]; · iapply (owns_pt c M4 h4 _).2; iexists f4; isplitr; (· ipureintro; rfl); iexact H4
  isplitl [H5]; · iapply (owns_pt c M5 h5 _).2; iexists f5; isplitr; (· ipureintro; rfl); iexact H5
  isplitl [H6]; · iapply (owns_pt c M6 h6 _).2; iexists f6; isplitr; (· ipureintro; rfl); iexact H6
  isplitl [H7]; · iapply (owns_pt c M7 h7 _).2; iexists f7; isplitr; (· ipureintro; rfl); iexact H7
  iapply (owns_pt c M8 h8 _).2; iexists f8'; isplitr; (· ipureintro; exact e8); iexact H8

end Cert.Kernel.Own

end
-- ==== Proof.K.Data.lean ====
/-
  What the pipeline moves: the contents of the arrays when the grid starts, what each staging buffer holds at each point,
  and the state carried from point to point.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.Point
public import Idealize.ShloMosaic.Lib.Pipeline.FrameBody
public import Idealize.ShloMosaic.Lib.Pipeline.ValueKit

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The contents of a buffer when the grid starts: the launch memory after the reshapes. -/
def V (c : Dev nD) (b : Ref sig .tc) : Buf (Elt F) ((c : Thread nD τ).loc b) := StableHlo.after hostOps0 (fun b => m (c, b)) b

/-- The table of ids when the grid starts. -/
def tbl : pre0.Contents (Elt F) := fun j => V m (0 : Dev nD) (pre0.ref j)

/-- The table that the launch prefetches is the array of ids. -/
theorem V_pre (c : Dev nD) (j : Fin 1) : V m c (pre0.ref j) = tbl m j := by
  obtain rfl : c = 0 := Subsingleton.elim _ _; rfl

/-- The pipeline at that table (no index map reads it, so any table will do). -/
def adm : (pcfg0 (F := F)).Adm := ⟨tbl m, trivial⟩

/-- What the staging buffer of a tile of the first operand holds at a point: the tile, and zero past the array's end. -/
def dTile (c : Dev nD) (t : Fin (cfg0 (adm m)).N) : S256x1024.Idx → Elt F .fp8e4m3 :=
  ((cfg0 (adm m)).win (1 : Fin 7)).fill ((cfg0 (adm m)).grid.coords t) (fun _ => FloatOps.ofBits .fp8e4m3 0)
    ((((cfg0 (adm m)).win (1 : Fin 7)).blk t).view.read (Elt F) (V m c main_v0))
/-- The same of the first operand's scales. -/
def sTile (c : Dev nD) (t : Fin (cfg0 (adm m)).N) : S1x1024.Idx → Elt F .f32 :=
  ((cfg0 (adm m)).win (2 : Fin 7)).fill ((cfg0 (adm m)).grid.coords t) (fun _ => FloatOps.ofBits .f32 0)
    ((((cfg0 (adm m)).win (2 : Fin 7)).blk t).view.read (Elt F) (V m c main_v1))

/-- The ids of the entries. -/
def ids (c : Dev nD) : S256.Idx → Elt F .i32 := V m c main_arg6
/-- The scales of the entries, the second operand, its scales, the coded entries. -/
def ES (c : Dev nD) : S256.Idx → Elt F .f32 := V m c main_arg5
def XC (c : Dev nD) : S256x1280.Idx → Elt F .fp8e4m3 := V m c main_v2
def XS (c : Dev nD) : S1x1280.Idx → Elt F .f32 := V m c main_v3
def EC (c : Dev nD) : S256x1280.Idx → Elt F .fp8e5m2 := V m c main_arg4

/-- The block the body leaves at a point. -/
def left (c : Dev nD) (t : Fin (cfg0 (adm m)).N) : S1024x1280.Idx → Elt F .f32 :=
  block (grid0.coords t) (ids m c) (ES m c) (dTile m c t) (sTile m c t) (XC m c) (XS m c) (EC m c)

/-- The proof data: the arrays as the grid finds them, the inputs left as they are and the result's block left, the carried
    state between points. -/
def dats (_ : Fin 1) (c : Dev nD) : Dat τ (Elt F) Unit ℕ (UR sig nD τ) ℕ (cfg0 (adm m)) c where
  A w := V m c (Pipeline.arrRef spec0 w)
  after w t := match w with
    | ⟨0, _⟩ => ES m c
    | ⟨1, _⟩ => dTile m c t
    | ⟨2, _⟩ => sTile m c t
    | ⟨3, _⟩ => XC m c
    | ⟨4, _⟩ => XS m c
    | ⟨5, _⟩ => EC m c
    | ⟨6, _⟩ => left m c t
  Φ t := carried c (ids m c) (EC m c) t.val
  q _ := fullShare
  owed _ := 0

/-- The array under each window is the one that the launch finds in memory. -/
theorem A_eq (c : Dev nD) (w : Fin (cfg0 (adm m)).W) : (dats m 0 c).A w = V m c (Pipeline.arrRef spec0 w) := by dsimp only [dats]

/-- The grid's one coordinate at a point is the point. -/
theorem coord_eq (t : Fin grid0.N) : (grid0.coords t 0).val = t.val := (by decide +kernel : ∀ t : Fin grid0.N, (grid0.coords t 0).val = t.val) t

/-- The staging buffers of the inputs hold their arrays' blocks. -/
theorem keep_0 (c : Dev nD) (t : Fin (cfg0 (adm m)).N) :
    ((cfg0 (adm m)).win (0 : Fin 7)).cut ((cfg0 (adm m)).grid.coords t) ((dats m 0 c).after (0 : Fin 7) t) = (dats m 0 c).blockOf (0 : Fin 7) t := by
  funext j
  blk_simp [Pipeline.Dat.blockOf_apply]
  show V m c main_arg5 _ = V m c main_arg5 _
  refine congrArg _ (funext fun a => Fin.ext ?_)
  refine Eq.trans ?_ (Pipeline.Window.rect_emb_val ((cfg0 (adm m)).win (0 : Fin 7)) t j a rfl).symm
  fin_cases a <;> exact (Nat.zero_add _).symm.trans (congrArg (· + _) (Nat.zero_mul _).symm)
theorem keep_1 (c : Dev nD) (t : Fin (cfg0 (adm m)).N) :
    ((cfg0 (adm m)).win (1 : Fin 7)).cut ((cfg0 (adm m)).grid.coords t) ((dats m 0 c).after (1 : Fin 7) t) = (dats m 0 c).blockOf (1 : Fin 7) t :=
  Window.cut_fill ..
theorem keep_2 (c : Dev nD) (t : Fin (cfg0 (adm m)).N) :
    ((cfg0 (adm m)).win (2 : Fin 7)).cut ((cfg0 (adm m)).grid.coords t) ((dats m 0 c).after (2 : Fin 7) t) = (dats m 0 c).blockOf (2 : Fin 7) t :=
  Window.cut_fill ..
theorem keep_3 (c : Dev nD) (t : Fin (cfg0 (adm m)).N) :
    ((cfg0 (adm m)).win (3 : Fin 7)).cut ((cfg0 (adm m)).grid.coords t) ((dats m 0 c).after (3 : Fin 7) t) = (dats m 0 c).blockOf (3 : Fin 7) t := by
  funext j
  blk_simp [Pipeline.Dat.blockOf_apply]
  show V m c main_v2 _ = V m c main_v2 _
  refine congrArg _ (funext fun a => Fin.ext ?_)
  refine Eq.trans ?_ (Pipeline.Window.rect_emb_val ((cfg0 (adm m)).win (3 : Fin 7)) t j a rfl).symm
  fin_cases a <;> exact (Nat.zero_add _).symm.trans (congrArg (· + _) (Nat.zero_mul _).symm)
theorem keep_4 (c : Dev nD) (t : Fin (cfg0 (adm m)).N) :
    ((cfg0 (adm m)).win (4 : Fin 7)).cut ((cfg0 (adm m)).grid.coords t) ((dats m 0 c).after (4 : Fin 7) t) = (dats m 0 c).blockOf (4 : Fin 7) t := by
  funext j
  blk_simp [Pipeline.Dat.blockOf_apply]
  show V m c main_v3 _ = V m c main_v3 _
  refine congrArg _ (funext fun a => Fin.ext ?_)
  refine Eq.trans ?_ (Pipeline.Window.rect_emb_val ((cfg0 (adm m)).win (4 : Fin 7)) t j a rfl).symm
  fin_cases a <;> exact (Nat.zero_add _).symm.trans (congrArg (· + _) (Nat.zero_mul _).symm)
theorem keep_5 (c : Dev nD) (t : Fin (cfg0 (adm m)).N) :
    ((cfg0 (adm m)).win (5 : Fin 7)).cut ((cfg0 (adm m)).grid.coords t) ((dats m 0 c).after (5 : Fin 7) t) = (dats m 0 c).blockOf (5 : Fin 7) t := by
  funext j
  blk_simp [Pipeline.Dat.blockOf_apply]
  show V m c main_arg4 _ = V m c main_arg4 _
  refine congrArg _ (funext fun a => Fin.ext ?_)
  refine Eq.trans ?_ (Pipeline.Window.rect_emb_val ((cfg0 (adm m)).win (5 : Fin 7)) t j a rfl).symm
  fin_cases a <;> exact (Nat.zero_add _).symm.trans (congrArg (· + _) (Nat.zero_mul _).symm)
/-- When the body runs an input's staging buffer holds its array's block, whatever it held past the array's end. -/
theorem before_0 (c : Dev nD) (t : Fin (cfg0 (adm m)).N) (d) : (dats m 0 c).before (0 : Fin 7) t d = (dats m 0 c).after (0 : Fin 7) t := by
  rw [(dats m 0 c).before_in_eq_fetched (0 : Fin 7) rfl (fun _ => rfl) (fun _ _ _ => rfl) (keep_0 m c) t d]
  unfold Dat.fetched
  rw [← keep_0 m c t]
  exact (Pipeline.fill_of_clip_none (cfg := cfg0 (adm m)) (0 : Fin 7) _ (fun _ => rfl) d ((dats m 0 c).after (0 : Fin 7) t) _).trans (Window.fill_cut ..)
theorem before_1 (c : Dev nD) (t : Fin (cfg0 (adm m)).N) (d) : (dats m 0 c).before (1 : Fin 7) t d = (dats m 0 c).fetched (1 : Fin 7) t d :=
  (dats m 0 c).before_in_eq_fetched (1 : Fin 7) rfl (fun _ => rfl)
    (fun t t' h => congrArg (fun f : Fin _ → ℕ => fun a => Pipeline.Clip.of (f a) ((spec0 1).size a) ((spec0 1).shape.size a)) h) (keep_1 m c) t d
theorem before_2 (c : Dev nD) (t : Fin (cfg0 (adm m)).N) (d) : (dats m 0 c).before (2 : Fin 7) t d = (dats m 0 c).fetched (2 : Fin 7) t d :=
  (dats m 0 c).before_in_eq_fetched (2 : Fin 7) rfl (fun _ => rfl)
    (fun t t' h => congrArg (fun f : Fin _ → ℕ => fun a => Pipeline.Clip.of (f a) ((spec0 2).size a) ((spec0 2).shape.size a)) h) (keep_2 m c) t d
theorem before_3 (c : Dev nD) (t : Fin (cfg0 (adm m)).N) (d) : (dats m 0 c).before (3 : Fin 7) t d = (dats m 0 c).after (3 : Fin 7) t := by
  rw [(dats m 0 c).before_in_eq_fetched (3 : Fin 7) rfl (fun _ => rfl) (fun _ _ _ => rfl) (keep_3 m c) t d]
  unfold Dat.fetched
  rw [← keep_3 m c t]
  exact (Pipeline.fill_of_clip_none (cfg := cfg0 (adm m)) (3 : Fin 7) _ (fun _ => rfl) d ((dats m 0 c).after (3 : Fin 7) t) _).trans (Window.fill_cut ..)
theorem before_4 (c : Dev nD) (t : Fin (cfg0 (adm m)).N) (d) : (dats m 0 c).before (4 : Fin 7) t d = (dats m 0 c).after (4 : Fin 7) t := by
  rw [(dats m 0 c).before_in_eq_fetched (4 : Fin 7) rfl (fun _ => rfl) (fun _ _ _ => rfl) (keep_4 m c) t d]
  unfold Dat.fetched
  rw [← keep_4 m c t]
  exact (Pipeline.fill_of_clip_none (cfg := cfg0 (adm m)) (4 : Fin 7) _ (fun _ => rfl) d ((dats m 0 c).after (4 : Fin 7) t) _).trans (Window.fill_cut ..)
theorem before_5 (c : Dev nD) (t : Fin (cfg0 (adm m)).N) (d) : (dats m 0 c).before (5 : Fin 7) t d = (dats m 0 c).after (5 : Fin 7) t := by
  rw [(dats m 0 c).before_in_eq_fetched (5 : Fin 7) rfl (fun _ => rfl) (fun _ _ _ => rfl) (keep_5 m c) t d]
  unfold Dat.fetched
  rw [← keep_5 m c t]
  exact (Pipeline.fill_of_clip_none (cfg := cfg0 (adm m)) (5 : Fin 7) _ (fun _ => rfl) d ((dats m 0 c).after (5 : Fin 7) t) _).trans (Window.fill_cut ..)

end Cert.Kernel.Own

end
-- ==== Proof.K.Launch.lean ====
/-
  The launch: the body at every point of the grid, and from it the whole program. The result's blocks are forgotten: here only
  the arguments are followed.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.Data
public import Idealize.ShloMosaic.Lib.Pipeline.FrameBody
public import Idealize.ShloMosaic.Lib.Pipeline.ValueKit

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window of the result, whose contents are not followed. -/
def forgets : Fin 7 → Bool := fun w => decide (w = 6)

/-- The body table's row at a point is the body on the point's staging buffers. -/
theorem row_eq (t : Fin (cfg0 (adm m)).N) :
    defs₀ (F := F) .tc (cfg0 (adm m)).body ((cfg0 (adm m)).bodyArgs t ((cfg0 (adm m)).slots t))
      = cc0_tied_embedding_weight_grad (grid0.coords t) (Memref.whole main_arg6) (Memref.isWhole_whole _)
          (spec0_0.stage ((cfg0 (adm m)).slots t 0)) (hstage0_0 (((cfg0 (adm m)).slots t 0).cast nbuf0_0))
          (spec0_1.stage ((cfg0 (adm m)).slots t 1)) (hstage0_1 (((cfg0 (adm m)).slots t 1).cast nbuf0_1))
          (spec0_2.stage ((cfg0 (adm m)).slots t 2)) (hstage0_2 (((cfg0 (adm m)).slots t 2).cast nbuf0_2))
          (spec0_3.stage ((cfg0 (adm m)).slots t 3)) (hstage0_3 (((cfg0 (adm m)).slots t 3).cast nbuf0_3))
          (spec0_4.stage ((cfg0 (adm m)).slots t 4)) (hstage0_4 (((cfg0 (adm m)).slots t 4).cast nbuf0_4))
          (spec0_5.stage ((cfg0 (adm m)).slots t 5)) (hstage0_5 (((cfg0 (adm m)).slots t 5).cast nbuf0_5))
          (spec0_6.stage ((cfg0 (adm m)).slots t 6)) (hstage0_6 (((cfg0 (adm m)).slots t 6).cast nbuf0_6))
          (Memref.whole cc0_scratch0) (Memref.isWhole_whole _) (Memref.whole cc0_scratch1) (Memref.isWhole_whole _) := by
  unfold defs₀; rw [Defs.onTc_tc]

/-- What the body is handed at a point. -/
def bodyPre (c : Dev nD) (t : Fin (cfg0 (adm m)).N) : sProp 𝕄 :=
  iprop(carried c (ids m c) (EC m c) t.val ∗ (dats m 0 c).owesAt () t.castSucc
      ∗ (∃ d, owns (c : Thread nD τ) (spec0_0.stage ((cfg0 (adm m)).slots t 0)) fullShare ((dats m 0 c).before (0 : Fin 7) t d))
      ∗ (∃ d, owns (c : Thread nD τ) (spec0_1.stage ((cfg0 (adm m)).slots t 1)) fullShare ((dats m 0 c).before (1 : Fin 7) t d))
      ∗ (∃ d, owns (c : Thread nD τ) (spec0_2.stage ((cfg0 (adm m)).slots t 2)) fullShare ((dats m 0 c).before (2 : Fin 7) t d))
      ∗ (∃ d, owns (c : Thread nD τ) (spec0_3.stage ((cfg0 (adm m)).slots t 3)) fullShare ((dats m 0 c).before (3 : Fin 7) t d))
      ∗ (∃ d, owns (c : Thread nD τ) (spec0_4.stage ((cfg0 (adm m)).slots t 4)) fullShare ((dats m 0 c).before (4 : Fin 7) t d))
      ∗ (∃ d, owns (c : Thread nD τ) (spec0_5.stage ((cfg0 (adm m)).slots t 5)) fullShare ((dats m 0 c).before (5 : Fin 7) t d))
      ∗ (∃ X, owns (c : Thread nD τ) (spec0_6.stage ((cfg0 (adm m)).slots t 6)) fullShare X))

/-- What it leaves. -/
def bodyPost (c : Dev nD) (t : Fin (cfg0 (adm m)).N) : sProp 𝕄 :=
  iprop(carried c (ids m c) (EC m c) (t.val + 1) ∗ (dats m 0 c).owesAt () t.castSucc
      ∗ owns (c : Thread nD τ) (spec0_0.stage ((cfg0 (adm m)).slots t 0)) fullShare (ES m c)
      ∗ (∃ d, owns (c : Thread nD τ) (spec0_1.stage ((cfg0 (adm m)).slots t 1)) fullShare
          (((cfg0 (adm m)).win (1 : Fin 7)).fill ((cfg0 (adm m)).grid.coords t) d (((cfg0 (adm m)).win (1 : Fin 7)).cut ((cfg0 (adm m)).grid.coords t) ((dats m 0 c).after (1 : Fin 7) t))))
      ∗ (∃ d, owns (c : Thread nD τ) (spec0_2.stage ((cfg0 (adm m)).slots t 2)) fullShare
          (((cfg0 (adm m)).win (2 : Fin 7)).fill ((cfg0 (adm m)).grid.coords t) d (((cfg0 (adm m)).win (2 : Fin 7)).cut ((cfg0 (adm m)).grid.coords t) ((dats m 0 c).after (2 : Fin 7) t))))
      ∗ owns (c : Thread nD τ) (spec0_3.stage ((cfg0 (adm m)).slots t 3)) fullShare (XC m c)
      ∗ owns (c : Thread nD τ) (spec0_4.stage ((cfg0 (adm m)).slots t 4)) fullShare (XS m c)
      ∗ owns (c : Thread nD τ) (spec0_5.stage ((cfg0 (adm m)).slots t 5)) fullShare (EC m c)
      ∗ (∃ X, owns (c : Thread nD τ) (spec0_6.stage ((cfg0 (adm m)).slots t 6)) fullShare X))

/-- The body at a point. -/
theorem body_point (hA : ∀ c, Ascends (ids m c)) (c : Dev nD) (t : Fin (cfg0 (adm m)).N) :
    bodyPre m c t ⊢ wp frame (wpE (defs₀ (F := F)) 𝒱₀ c none) Set.univ
      (defs₀ (F := F) .tc (cfg0 (adm m)).body ((cfg0 (adm m)).bodyArgs t ((cfg0 (adm m)).slots t))) fun _ => bodyPost m c t := by
  have hc : (grid0.coords t 0).val = t.val := coord_eq t
  rw [row_eq]; unfold bodyPre bodyPost
  rw [keep_1, keep_2]
  iintro ⟨HC, HO, ⟨%d0, H0⟩, ⟨%d1, H1⟩, ⟨%d2, H2⟩, ⟨%d3, H3⟩, ⟨%d4, H4⟩, ⟨%d5, H5⟩, ⟨%Y, H6⟩⟩
  rw [before_0, before_1, before_2, before_3, before_4, before_5]
  iapply (point_le c (grid0.coords t) _ _ _ _ _ _ _ _ _ _ _ _ _ _ (ids m c) (hA c) (ES m c) ((dats m 0 c).fetched (1 : Fin 7) t d1)
    ((dats m 0 c).fetched (2 : Fin 7) t d2) (XC m c) (XS m c) (EC m c) Y)
  rw [hc]
  isplitl [HC]; · iexact HC
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HC, H0, H1, H2, H3, H4, H5, H6⟩
  isplitl [HC]; · iexact HC
  isplitl [HO]; · iexact HO
  isplitl [H0]; · iexact H0
  isplitl [H1]; · iexists d1; iexact H1
  isplitl [H2]; · iexists d2; iexact H2
  isplitl [H3]; · iexact H3
  isplitl [H4]; · iexact H4
  isplitl [H5]; · iexact H5
  iexists _; iexact H6

/-- The body at every point, the result's block forgotten. -/
theorem body_obligation (hA : ∀ c, Ascends (ids m c)) (c : Dev nD) :
    BodyObligationLoose (dats m 0 c) (defs₀ (F := F)) 𝒱₀ () Set.univ forgets := fun t => by
  rw [bigSep_W0, bigSep_W0]
  exact triple_restated (body_point m hA c t) rfl .rfl fun _ => .rfl

/-- The program is its host part followed by the launch, with the memory that the launch finds. -/
theorem hmain : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub (by simp only [List.Forall]; exact ⟨rfl, rfl, rfl, rfl⟩) main_chain

/-- The table of ids as the one buffer it is. -/
theorem table_eq (c : Dev nD) : (Pipeline.ΦT pre0 (adm m).1 c : sProp 𝕄) = iprop(((c : Thread nD τ).loc main_arg6) ↦{fullShare.right} ids m c) := by
  obtain rfl : c = 0 := Subsingleton.elim _ _
  unfold Pipeline.ΦT Pipeline.prefHeld
  rw [BI.bigSep_eq_bigSepL_of_eq [(0 : Fin 1)] (by decide) (by decide)]
  rfl

/-- Before the first point nothing is known of the scratch or the pointer. -/
theorem hin (c : Dev nD) : iprop(Pipeline.ΦA spec0 c ∗ Pipeline.ΦT pre0 (adm m).1 c) ⊢ (dats m 0 c).Φ 0 := by
  rw [table_eq]; unfold Pipeline.ΦA; rw [scopedRest0_eq]
  change _ ⊢ carried c (ids m c) (EC m c) 0
  unfold carried
  iintro ⟨⟨⟨⟨%f9, H9⟩, ⟨%f10, H10⟩⟩, Hg⟩, H1⟩
  iexists f9; iexists f10
  isplitr
  · ipureintro; exact fun h => absurd rfl h
  isplitl [H9]; · iexact H9
  isplitl [H10]; · iexact H10
  isplitl [Hg]; · iexact Hg
  iexact H1

/-- After the last point the carried state is let go. -/
theorem hout (c : Dev nD) : (dats m 0 c).Φ (Fin.last (cfg0 (adm m)).N) ⊢ Pipeline.ΦA spec0 c := by
  unfold Pipeline.ΦA; rw [scopedRest0_eq]
  change carried c (ids m c) (EC m c) _ ⊢ _
  unfold carried
  iintro ⟨%f9, %f10, %h, H9, H10, Hg, H1⟩
  isplitr [Hg]
  · isplitl [H9]
    · iexists f9; iexact H9
    · iexists f10; iexact H10
  iexact Hg

set_option backward.isDefEq.respectTransparency.types false in
/-- If the ids ascend the program terminates without a fault and leaves every buffer but the result as the grid found it. -/
theorem run_main (hA : ∀ c, Ascends (ids m c)) :
    θ_run defs (onTc (τ := τ) (main (F := F))) (s₀ m ρ)
      (fun r => Pipeline.RDat.FramePost (cfg0 (adm m)) (fun c => (dats m 0 c).toRForget forgets) (V m) r ∧ r.2.sem = fun _ => 0) :=
  Pipeline.θ_run_frameP_track_forget (Q' := _) pcfgs (fun _ => adm m) (dats m) (0 : Fin 1) launch0 defs₀ 𝒱₀ forgets m ρ main
    (hbody := body_obligation m hA) (hshare := fun c => (dats m 0 c).share_full fun _ => rfl)
    (howed := fun _ _ => rfl) (V := V m) (hmain := hmain m) (hA := A_eq m) (hpf := V_pre m)
    (hin := hin m) (hout := hout m)

end Cert.Kernel.Own

end
-- ==== Proof.Ascend.lean ====
/-
  What the precondition says: the ids are in ascending order and none is negative.
-/
module

public import proofs.«01_k».proof.Proof.Gen.Pre_ids_ascend
public import proofs.«01_k».proof.Proof.Rows
public import Idealize.ShloMosaic.Lib.Pointwise
public import Idealize.ShloMosaic.Lib.StableHlo.Predicate

@[expose] public section

namespace Cert.Rows

open Idealize.ShloMosaic Cert.Pre_ids_ascend

/-- A word that is signed-at-most a word, and is not negative, is at most it as a number, and that one is not negative. -/
theorem le_of_sle (a b : BitVec 32) (ha : a.toNat < 2 ^ 31) (h : a.sle b = true) : a.toNat ≤ b.toNat ∧ b.toNat < 2 ^ 31 := by
  have ha' : a.toInt = a.toNat := by rw [BitVec.toInt_eq_toNat_cond]; split <;> omega
  have h' : a.toInt ≤ b.toInt := by simpa [BitVec.sle] using h
  have hb := b.isLt
  rw [ha', BitVec.toInt_eq_toNat_cond] at h'
  split at h' <;> omega

/-- The comparison of words that gives a bit, read as the comparison that gives a truth value. -/
theorem sle_of (a b : BitVec 32) (h : IntOp.cmpi .sle a b = 1#1) : a.sle b = true := by
  unfold IntOp.cmpi at h
  cases hc : a.sle b
  · simp [hc] at h
  · rfl

/-- A table whose every word is at least the word before it, the first at least zero, ascends. -/
theorem ascends_of_steps (ids : S256.Idx → BitVec 32) (h0 : (0#32).sle (ids (ix1 0)) = true)
    (hs : ∀ n (h : n + 1 < 256), (ids (ix1 (n0 := 256) ⟨n, by omega⟩)).sle (ids (ix1 (n0 := 256) ⟨n + 1, h⟩)) = true) : Ascends ids := by
  have h31 : ∀ n (h : n < 256), (ids (ix1 (n0 := 256) ⟨n, h⟩)).toNat < 2 ^ 31 := by
    intro n
    induction n with
    | zero => intro h; exact (le_of_sle 0#32 _ (by decide) h0).2
    | succ n ih => intro h; exact (le_of_sle _ _ (ih (by omega)) (hs n h)).2
  refine ⟨fun n => h31 n.val n.isLt, fun a b hab => ?_⟩
  have key : ∀ k (h : a.val + k < 256), (ids (ix1 a)).toNat ≤ (ids (ix1 (n0 := 256) ⟨a.val + k, h⟩)).toNat := by
    intro k
    induction k with
    | zero => intro h; exact le_refl _
    | succ k ih => intro h; exact (ih (by omega)).trans (le_of_sle _ _ (h31 _ _) (hs (a.val + k) h)).1
  have := key (b.val - a.val) (by omega)
  have e : (⟨a.val + (b.val - a.val), by omega⟩ : Fin 256) = b := Fin.ext (by show a.val + (b.val - a.val) = b.val; have : a.val ≤ b.val := hab; omega)
  rwa [e] at this

/-- The predicate holds of the arguments only if the ids ascend. -/
theorem ascends_of_fn {F : FTy → Type} [FloatOps F] [Facts] (a0 : FVec F S2x128x50304 .fp8e4m3) (a1 : FVec F S50304 .f32) (a2 : FVec F S2x128x1280 .fp8e4m3)
    (a3 : FVec F S1280 .f32) (a4 : FVec F S256x1280 .fp8e5m2) (a5 : FVec F S256 .f32) (a6 : IVec S256 32)
    (h : fn a0 a1 a2 a3 a4 a5 a6 = fun _ => 1#1) : Ascends a6 := by
  have hp : ∀ n : Fin 256, _ := fun n => congrFun h (ix1 n)
  simp only [fn, cmpi] at hp
  refine ascends_of_steps a6 ?_ ?_
  · have := hp 0
    pointwise at this
    exact sle_of _ _ this
  · intro n hn
    have := hp ⟨n + 1, hn⟩
    pointwise at this
    rw [dif_neg (by omega)] at this
    exact sle_of _ _ this

end Cert.Rows
-- ==== Proof.K.Frame.lean ====
/-
  The frame: under the precondition the program terminates without a fault and leaves its arguments as they were.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.K.Launch
public import Idealize.ShloMosaic.Lib.Pipeline.FrameBody
public import Idealize.ShloMosaic.Lib.Pipeline.ValueKit
public import proofs.«01_k».proof.Proof.Ascend

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host part leaves the first argument as it was. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- The frame, from ids that ascend. -/
theorem frame (hA : ∀ c : Dev nD, Ascends (m ((c : Thread nD τ).loc main_arg6))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(((h.1 c).2 main_arg0 (Pipeline.mem_restRefs_of main_arg0 (by decide) (by exact (by decide : ∀ w : Fin 7, (spec0 w).arr.view.ref ≠ main_arg0)))).trans (V_main_arg0 m c)),
      (((h.1 c).2 main_arg1 (Pipeline.mem_restRefs_of main_arg1 (by decide) (by exact (by decide : ∀ w : Fin 7, (spec0 w).arr.view.ref ≠ main_arg1)))).trans (V_main_arg1 m c)),
      (((h.1 c).2 main_arg2 (Pipeline.mem_restRefs_of main_arg2 (by decide) (by exact (by decide : ∀ w : Fin 7, (spec0 w).arr.view.ref ≠ main_arg2)))).trans (V_main_arg2 m c)),
      (((h.1 c).2 main_arg3 (Pipeline.mem_restRefs_of main_arg3 (by decide) (by exact (by decide : ∀ w : Fin 7, (spec0 w).arr.view.ref ≠ main_arg3)))).trans (V_main_arg3 m c)),
      ((congrFun (((dats m 0 c).toRForget forgets).ArrAt_in (5 : Fin 7) rfl _) _).mp ((h.1 c).1 (5 : Fin 7))).trans (V_main_arg4 m c),
      ((congrFun (((dats m 0 c).toRForget forgets).ArrAt_in (0 : Fin 7) rfl _) _).mp ((h.1 c).1 (0 : Fin 7))).trans (V_main_arg5 m c),
      (((h.1 c).2 main_arg6 (Pipeline.mem_restRefs_of main_arg6 (by decide) (by exact (by decide : ∀ w : Fin 7, (spec0 w).arr.view.ref ≠ main_arg6)))).trans (V_main_arg6 m c))⟩, h.2⟩)
    (run_main m ρ hA)

end Cert.Kernel.Own

end
-- ==== Proof.KI.While.lean ====
/-
  The row loop: entered at the pointer `j` in block `i`, it adds to the block the embedding rows whose ids lie below the
  block's end, and returns the pointer to the first row whose id does not.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.Rows

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop's calls count down by a natural number. -/
abbrev 𝒱₀ : Variants := Variants.nat

/-- The contents of a memref's buffer on core `c`. -/
abbrev Bf (c : Dev nD) {sp : Space} {S : Shape} {e : EltTy} (M : Memref sig .tc sp S e) : Type := Buf (Elt F) (M.view.loc (c : Thread nD τ))

/-- A memref's whole buffer held on core `c` at contents `f`. -/
abbrev pt (c : Dev nD) {sp : Space} {S : Shape} {e : EltTy} (M : Memref sig .tc sp S e) (f : Bf (F := F) c M) : sProp 𝕄 :=
  M.view.loc (c : Thread nD τ) ↦{fullShare} f

open Cert.Rows

/-- The contents of a table of words read at the one element of a unit rectangle. -/
theorem read_one {S : Shape} {e : EltTy} (M : Memref sig .tc .smem ⟨1, ![256]⟩ e) (f : M.view.ty.Contents (Elt F))
    (off : Fin 1 → ℕ) (inb : ∀ a, off a + S1.size a ≤ (⟨1, ![256]⟩ : Shape).size a) (k : Fin 256) (hk : off 0 = k.val) (hp : 0 < (Rect.unit (s := ⟨1, ![256]⟩) off S1.size inb).shape.numel) :
    M.view.readAt (Elt F) (Rect.unit (s := ⟨1, ![256]⟩) off S1.size inb).toLoadRect f (Shape.Idx.first hp) = M.view.read (Elt F) f (ix1 k) := by
  show M.view.read (Elt F) f ((Rect.unit (s := ⟨1, ![256]⟩) off S1.size inb).emb _) = _
  refine congrArg _ (funext fun a => Fin.ext ?_)
  obtain rfl : a = 0 := Fin.fin_one_eq_zero a
  show off 0 + 1 * (Shape.Idx.first hp 0).val = k.val
  have := (Shape.Idx.first hp 0).isLt
  have h1 : (Rect.unit (s := ⟨1, ![256]⟩) off S1.size inb).shape.size 0 = 1 := rfl
  omega

section Label

variable (c : Dev nD) (i : grid0.Coords) (M1 : Memref sig .tc .smem S256 .i32) (h1 : M1.IsWhole) (M2 : Memref sig .tc .smem S256 .f32) (h2 : M2.IsWhole)
    (M8 : Memref sig .tc .vmem S1024x1280 .f32) (h8 : M8.IsWhole) (M9 : Memref sig .tc .vmem S256x1280 .f32) (h9 : M9.IsWhole)
    (q : PosShare TreeShare) (f1 : Bf (F := F) c M1) (f2 : Bf (F := F) c M2) (f9 : Bf (F := F) c M9)

/-- The rows of block `i` after the `k` embedding rows from `j` on. -/
abbrev rowsOf (k j : ℕ) (T : S1024x1280.Idx → Elt F .f32) : S1024x1280.Idx → Elt F .f32 :=
  rows (M1.view.read (Elt F) f1) (M2.view.read (Elt F) f2) (M9.view.read (Elt F) f9) (1024 * (i 0).val) k j T

/-- What the loop reads and does not change: the ids, the scales, the embedding rows. -/
def held : sProp 𝕄 := iprop((M1.view.loc (c : Thread nD τ) ↦{q} f1) ∗ pt c M2 f2 ∗ pt c M9 f9)

/-- The loop's specification with `k` rows to add from `j` on: it returns the pointer `j + k`, what it reads as it was,
    and the block with the `k` rows added. -/
def spec (j k : ℕ) (f8 : Bf (F := F) c M8) : sWPT 𝕄 (BitVec 32) := do
  sWPT.consume iprop(held c M1 M2 M9 q f1 f2 f9 ∗ pt c M8 f8)
  let f8' ← sWPT.arbitrary
  sWPT.assume (M8.view.read (Elt F) f8' = rowsOf c i M1 M2 M9 f1 f2 f9 k j (M8.view.read (Elt F) f8))
  sWPT.produce iprop(held c M1 M2 M9 q f1 f2 f9 ∗ pt c M8 f8')
  pure (BitVec.ofNat 32 (j + k))

/-- What the loop's specification says at a cursor, spelled out. -/
theorem spec_apply (j k : ℕ) (f8 : Bf (F := F) c M8) (K : BitVec 32 → sProp 𝕄) :
    spec c i M1 M2 M8 M9 q f1 f2 f9 j k f8 K
      = iprop((held c M1 M2 M9 q f1 f2 f9 ∗ pt c M8 f8)
        ∗ ∀ f8' : Bf (F := F) c M8, ⌜M8.view.read (Elt F) f8' = rowsOf c i M1 M2 M9 f1 f2 f9 k j (M8.view.read (Elt F) f8)⌝
          -∗ ((held c M1 M2 M9 q f1 f2 f9 ∗ pt c M8 f8') -∗ K (BitVec.ofNat 32 (j + k)))) := rfl

/-- The first check of the loop holds at every pointer. -/
theorem chk1_of (j : ℕ) (hj : j ≤ 256) : k0_chk1 (BitVec.ofNat 32 j) := by
  intro a
  obtain rfl : a = 0 := Fin.fin_one_eq_zero a
  show (Scalar.minsi (BitVec.ofNat 32 j) 255#32).toNat + 1 ≤ 256
  rw [min_toNat j hj]; omega

/-- A cursor of at most 256 is read back unchanged from its 32-bit word. -/
theorem ofNat_toNat (j : ℕ) (hj : j ≤ 256) : (BitVec.ofNat 32 j).toNat = j := by
  rw [BitVec.toNat_ofNat]; omega

/-- The second check holds below 256. -/
theorem chk2_of (j : ℕ) (hj : j < 256) : k0_chk2 (BitVec.ofNat 32 j) := by
  have h := ofNat_toNat j hj.le
  refine ⟨fun a => ?_, fun a => ?_, fun a => ?_⟩
  · obtain rfl : a = 0 := Fin.fin_one_eq_zero a
    show (BitVec.ofNat 32 j).toNat + 1 ≤ 256
    omega
  · fin_cases a <;> [show (BitVec.ofNat 32 j).toNat + 1 ≤ 256; show 0 + 1280 ≤ 1280] <;> omega
  · obtain rfl : a = 0 := Fin.fin_one_eq_zero a
    show (BitVec.ofNat 32 j).toNat + 1 ≤ 256
    omega

/-- The row inside the tile is the id less the tile's first row. -/
theorem off3_0 (w : BitVec 32) (hw : 1024 * (i 0).val ≤ w.toNat) : k0_off3 i w 0 = w.toNat - 1024 * (i 0).val :=
  row_toNat (i 0).val (i 0).isLt w hw

/-- The third check holds of an id that lies in the block. -/
theorem chk3_of (w : BitVec 32) (hw : 1024 * (i 0).val ≤ w.toNat) (hw' : w.toNat < 1024 * ((i 0).val + 1)) : k0_chk3 i w := by
  intro a
  have h := off3_0 i w hw
  fin_cases a <;> [show k0_off3 i w 0 + 1 ≤ 1024; show 0 + 1280 ≤ 1280] <;> omega

variable {c M1 M2 M8 M9 f1 f2 f9} in
/-- Storing the loop's row is the step of the table. -/
theorem store_row (j : ℕ) (hj : j < 256) (f8 : Bf (F := F) c M8) (w : BitVec 32) (hw : w = M1.view.read (Elt F) f1 (ix1 ⟨j, hj⟩))
    (hle : 1024 * (i 0).val ≤ w.toNat) (hc2 : k0_chk2 (BitVec.ofNat 32 j)) (hc3 : k0_chk3 i w) (s : Elt F .f32) (hs : s = M2.view.read (Elt F) f2 (ix1 ⟨j, hj⟩)) :
    M8.view.read (Elt F) (M8.view.writes (Elt F) f8 [⟨Rect.unit (s := S1024x1280) (k0_off3 i w) S1x1280.size (k0_off3_inb i w hc3),
        k0_pay1 (M8.view.readAt (Elt F) (Rect.unit (s := S1024x1280) (k0_off3 i w) S1x1280.size (k0_off3_inb i w hc3)).toLoadRect f8)
          (M9.view.readAt (Elt F) (Rect.unit (s := S256x1280) (k0_off4 (BitVec.ofNat 32 j)) S1x1280.size (k0_off4_inb _ hc2)).toLoadRect f9) s⟩])
      = rowStep (M1.view.read (Elt F) f1) (M2.view.read (Elt F) f2) (M9.view.read (Elt F) f9) (1024 * (i 0).val) j (M8.view.read (Elt F) f8) := by
  have h3 := off3_0 i w hle
  rw [View.read_writes_cons_put _ _ _ _ _ rfl]
  funext y
  unfold VecWindow.put rowStep
  rw [dif_pos hj]
  by_cases hy : (y 0).val = w.toNat - 1024 * (i 0).val
  · have hall : ∀ a, k0_off3 i w a ≤ (y a).val ∧ (y a).val < k0_off3 i w a + S1x1280.size a := by
      intro a
      have h1 := (y 1).isLt
      fin_cases a
      · show k0_off3 i w 0 ≤ (y 0).val ∧ (y 0).val < k0_off3 i w 0 + 1
        omega
      · show 0 ≤ (y 1).val ∧ (y 1).val < 0 + 1280
        exact ⟨Nat.zero_le _, by rw [Nat.zero_add]; exact h1⟩
    rw [dif_pos hall, if_pos (by rw [← hw]; exact hy)]
    subst hs
    unfold k0_pay1
    dsimp only
    rw [shapeCast_self]
    have e8 : (Rect.unit (s := S1024x1280) (k0_off3 i w) S1x1280.size (k0_off3_inb i w hc3)).emb
        (Rect.unitLocal (s := S1024x1280) (off := k0_off3 i w) (size := S1x1280.size) y hall) = y := by
      funext a; apply Fin.ext
      show k0_off3 i w a + 1 * ((y a).val - k0_off3 i w a) = (y a).val
      have := hall a; omega
    have e9 : (Rect.unit (s := S256x1280) (k0_off4 (BitVec.ofNat 32 j)) S1x1280.size (k0_off4_inb _ hc2)).emb
        (Rect.unitLocal (s := S1024x1280) (off := k0_off3 i w) (size := S1x1280.size) y hall) = ix2 ⟨j, hj⟩ (y 1) := by
      funext a; apply Fin.ext
      have hj' := ofNat_toNat j hj.le
      fin_cases a
      · show (BitVec.ofNat 32 j).toNat + 1 * ((y 0).val - k0_off3 i w 0) = j
        omega
      · show 0 + 1 * ((y 1).val - 0) = (y 1).val
        omega
    exact congrArg₂ FloatOps.addf (congrArg (M8.view.read (Elt F) f8) e8) (congrArg₂ FloatOps.mulf (congrArg (M9.view.read (Elt F) f9) e9) rfl)
  · have hnot : ¬∀ a, k0_off3 i w a ≤ (y a).val ∧ (y a).val < k0_off3 i w a + S1x1280.size a := by
      intro h
      have h0 := h 0
      have : S1x1280.size 0 = 1 := rfl
      omega
    rw [dif_neg hnot, if_neg (by rw [← hw]; exact hy)]
    rfl

/-- The specification with `k` rows to add from `j` on is met by the loop's body entered at variant `k`: with no row left
    the test fails and the pointer is returned; otherwise the test passes, the id at the pointer lies in the block, its row
    is loaded, added to and stored, and the loop is entered again at the next pointer. -/
theorem spec_le (E : Set ℕ) (hA : Ascends (M1.view.read (Elt F) f1)) :
    ∀ k j, j + k = cnt (M1.view.read (Elt F) f1) (1024 * ((i 0).val + 1)) → cnt (M1.view.read (Elt F) f1) (1024 * (i 0).val) ≤ j →
      ∀ f8 K, spec c i M1 M2 M8 M9 q f1 f2 f9 j k f8 K
      ⊢ wp frame (wpE (defs₀ (F := F)) 𝒱₀ (c : Thread nD τ) (some k)) E
          (defs₀ (F := F) .tc 1 ⟨i, M1, h1, M8, h8, M9, h9, M2, h2, BitVec.ofNat 32 j⟩) K := by
  have hi : (i 0).val < 50 := (i 0).isLt
  intro k
  induction k with
  | zero =>
    intro j hj hjl f8 K
    have hjT : j ≤ 256 := by have := cnt_le (ids := M1.view.read (Elt F) f1) (1024 * ((i 0).val + 1)); omega
    rw [spec_apply]
    show _ ⊢ wp frame (wpE (defs₀ (F := F)) 𝒱₀ (c : Thread nD τ) (some 0)) E
      (cc0_while1 i M1 h1 M8 h8 M9 h9 M2 h2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨⟨H1, H2, H9⟩, H8⟩, Hk⟩
    iapply (wp_assume 𝒱₀ (c : Thread nD τ) (some 0) E (chk1_of j hjT))
    iapply (wp_load 𝒱₀ (c : Thread nD τ) (some 0) E (m := M1) (Finset.subset_univ _)) $$ H1; iintro H1
    rw [read_one (S := S256) M1 f1 _ _ ⟨min j 255, by omega⟩ (min_toNat j hjT)]
    have htest := test_iff (i 0).val j hi hjT (M1.view.read (Elt F) f1 (ix1 ⟨min j 255, by omega⟩)) (hA.1 _)
    rw [if_neg (by
      intro h
      have h := htest.mp h
      have h2 := (lt_cnt_iff hA ⟨min j 255, by omega⟩ (1024 * ((i 0).val + 1))).mpr h.2
      have h3 : min j 255 < cnt (M1.view.read (Elt F) f1) (1024 * ((i 0).val + 1)) := h2
      omega)]
    rw [wp_ret]; imodintro
    iapply Hk $$ %f8
    · ipureintro; rfl
    isplitl [H1 H2 H9]
    · isplitl [H1]; · iexact H1
      isplitl [H2]; · iexact H2
      iexact H9
    iexact H8
  | succ k ih =>
    intro j hj hjl f8 K
    have hjT : j < 256 := by have := cnt_le (ids := M1.view.read (Elt F) f1) (1024 * ((i 0).val + 1)); omega
    rw [spec_apply]
    show _ ⊢ wp frame (wpE (defs₀ (F := F)) 𝒱₀ (c : Thread nD τ) (some (k + 1))) E
      (cc0_while1 i M1 h1 M8 h8 M9 h9 M2 h2 (BitVec.ofNat 32 j)) K
    simp only [cc0_while1_eq_skeleton]; unfold cc0_while1_skel
    simp only [smemLoad, smemLoadElt, Prog.lift, Prog.bind_op, Prog.bind_ret, Prog.pure_eq_ret]
    have hlt : (M1.view.read (Elt F) f1 (ix1 ⟨j, hjT⟩)).toNat < 1024 * ((i 0).val + 1) := (lt_cnt_iff hA ⟨j, hjT⟩ _).mp (by show j < _; omega)
    have hge : 1024 * (i 0).val ≤ (M1.view.read (Elt F) f1 (ix1 ⟨j, hjT⟩)).toNat := by
      by_contra h
      have h2 := (lt_cnt_iff hA ⟨j, hjT⟩ (1024 * (i 0).val)).mpr (by omega)
      have h3 : j < cnt (M1.view.read (Elt F) f1) (1024 * (i 0).val) := h2
      omega
    unfold held
    iintro ⟨⟨⟨H1, H2, H9⟩, H8⟩, Hk⟩
    iapply (wp_assume 𝒱₀ (c : Thread nD τ) (some (k + 1)) E (chk1_of j hjT.le))
    iapply (wp_load 𝒱₀ (c : Thread nD τ) (some (k + 1)) E (m := M1) (Finset.subset_univ _)) $$ H1; iintro H1
    rw [read_one (S := S256) M1 f1 _ _ ⟨j, hjT⟩ ((min_toNat j hjT.le).trans (by show min j 255 = j; omega))]
    rw [if_pos ((test_iff (i 0).val j hi hjT.le (M1.view.read (Elt F) f1 (ix1 ⟨j, hjT⟩)) (hA.1 _)).mpr ⟨hjT, hlt⟩)]
    iapply (wp_assume 𝒱₀ (c : Thread nD τ) (some (k + 1)) E (chk2_of j hjT))
    iapply (wp_load 𝒱₀ (c : Thread nD τ) (some (k + 1)) E (m := M1) (Finset.subset_univ _)) $$ H1; iintro H1
    rw [read_one (S := S256) M1 f1 _ _ ⟨j, hjT⟩ (ofNat_toNat j hjT.le)]
    iapply (wp_assume 𝒱₀ (c : Thread nD τ) (some (k + 1)) E (chk3_of i _ hge hlt))
    iapply (wp_load 𝒱₀ (c : Thread nD τ) (some (k + 1)) E (m := M8) (Finset.subset_univ _)) $$ H8; iintro H8
    iapply (wp_load 𝒱₀ (c : Thread nD τ) (some (k + 1)) E (m := M9) (Finset.subset_univ _)) $$ H9; iintro H9
    iapply (wp_load 𝒱₀ (c : Thread nD τ) (some (k + 1)) E (m := M2) (Finset.subset_univ _)) $$ H2; iintro H2
    iapply (wp_load 𝒱₀ (c : Thread nD τ) (some (k + 1)) E (m := M8) (Finset.subset_univ _)) $$ H8; iintro H8
    iapply (wp_store_writes₀ 𝒱₀ (c : Thread nD τ) (some (k + 1)) E (m := M8) (f := f8)
      (r := Rect.unit (s := S1024x1280) (k0_off3 i (M1.view.read (Elt F) f1 (ix1 ⟨j, hjT⟩))) S1x1280.size (k0_off3_inb i _ (chk3_of i _ hge hlt)))
      (S := Finset.univ) (Finset.subset_univ _)) $$ H8; iintro H8
    rw [next_ptr j]
    iapply (wp_call_spec 𝒱₀ (c : Thread nD τ) (some (k + 1)) E (spec c i M1 M2 M8 M9 q f1 f2 f9 (j + 1) k _) k
      (fun u hu => by cases hu; exact Nat.lt_succ_self k)
      (ih (j + 1) (by omega) (by omega) _))
    rw [spec_apply]; unfold held
    isplitl [H1 H2 H9 H8]
    · isplitl [H1 H2 H9]
      · isplitl [H1]; · iexact H1
        isplitl [H2]; · iexact H2
        iexact H9
      iexact H8
    iintro %f8' %hf ⟨⟨H1, H2, H9⟩, H8⟩
    rw [wp_ret]; imodintro
    rw [store_row i j hjT f8 _ rfl hge (chk2_of j hjT) (chk3_of i _ hge hlt) _ (read_one (S := S256) M2 f2 _ _ ⟨j, hjT⟩ (ofNat_toNat j hjT.le) _)] at hf
    rw [show j + (k + 1) = j + 1 + k by omega]
    iapply Hk $$ %f8'
    · ipureintro; exact hf
    isplitl [H1 H2 H9]
    · isplitl [H1]; · iexact H1
      isplitl [H2]; · iexact H2
      iexact H9
    iexact H8

end Label

end Cert.KernelIdeal.Own

end
-- ==== Proof.KI.Run.lean ====
/-
  The kernel body up to its loop, executed once for an arbitrary grid point: first at the point where the scratch is filled,
  then at the others; and the block it stores, as a function of the body's operands.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.While

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rest of the body from the call of the loop on: the loop is entered at the pointer `v`, and the pointer it returns
    is stored. -/
noncomputable def tail (i : grid0.Coords) (M1 : Memref sig .tc .smem S256 .i32) (h1 : M1.IsWhole) (M2 : Memref sig .tc .smem S256 .f32) (h2 : M2.IsWhole)
    (M8 : Memref sig .tc .vmem S1024x1280 .f32) (h8 : M8.IsWhole) (M9 : Memref sig .tc .vmem S256x1280 .f32) (h9 : M9.IsWhole)
    (M10 : Memref sig .tc .smem S1 .i32) (v : BitVec 32) : Prog (TpuEff nD τ sig (Elt F) (Λ₀ F) .tc) PUnit :=
  .op (.call (1 : (Λ₀ F).Label) ⟨i, M1, h1, M8, h8, M9, h9, M2, h2, v⟩) fun v553 => do
    let _ ← smemLoad M10 (Rect.unit (s := S1) ![0] S1.size inb_S1_S1_0) numel1_S1 rfl
    Prog.lift (.store M10 (Rect.unit (s := S1) ![0] S1.size inb_S1_S1_0) (fun _ => v553) Finset.univ (View.stores_smem_one rfl numel1_S1) (.inl rfl))
    pure ⟨⟩

set_option maxHeartbeats 400000 in
/-- The body at the first grid point, up to the call of the loop: the embedding rows are widened into the scratch, the
    pointer is set to zero, and the 80 tiles of the block are stored. -/
noncomputable def runFirst (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    { W : List (View.Piece (Elt F) S1024x1280 .f32) × List (View.Piece (Elt F) S256x1280 .f32) × List (View.Piece (Elt F) S1 .i32) //
      ∀ (i : grid0.Coords)
    (hc : Scalar.cmpi .ne (Scalar.extui (Scalar.cmpi .eq (BitVec.ofNat 32 (i 0).val) 0#32)) (0#32 : BitVec 32) = 1#1)
    (M1 : Memref sig .tc .smem S256 .i32) (h1 : M1.IsWhole) (M2 : Memref sig .tc .smem S256 .f32) (h2 : M2.IsWhole)
     (h3 : M3.IsWhole)  (h4 : M4.IsWhole)
     (h5 : M5.IsWhole)  (h6 : M6.IsWhole)
     (h7 : M7.IsWhole) (M8 : Memref sig .tc .vmem S1024x1280 .f32) (h8 : M8.IsWhole)
    (M9 : Memref sig .tc .vmem S256x1280 .f32) (h9 : M9.IsWhole) (M10 : Memref sig .tc .smem S1 .i32) (h10 : M10.IsWhole)
     (f8 : Bf (F := F) c M8) (f9 : Bf (F := F) c M9) (f10 : Bf (F := F) c M10)
    (Q : PUnit → sProp 𝕄),
    iprop(pt c M3 f3 ∗ pt c M4 f4 ∗ pt c M5 f5 ∗ pt c M6 f6 ∗ pt c M7 f7 ∗ pt c M8 f8 ∗ pt c M9 f9 ∗ pt c M10 f10
      ∗ (pt c M3 f3 ∗ pt c M4 f4 ∗ pt c M5 f5 ∗ pt c M6 f6 ∗ pt c M7 f7 ∗ pt c M8 (M8.view.writes (Elt F) f8 W.1)
           ∗ pt c M9 (M9.view.writes (Elt F) f9 W.2.1) ∗ pt c M10 (M10.view.writes (Elt F) f10 W.2.2)
         -∗ wp frame (wpE (defs₀ (F := F)) 𝒱₀ c none) Set.univ
              (tail i M1 h1 M2 h2 M8 h8 M9 h9 M10 0#32) Q))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q } := by
  refine ⟨(?_, ?_, ?_), fun i hc M1 h1 M2 h2 h3 h4 h5 h6 h7 M8 h8 M9 h9 M10 h10 f8 f9 f10 Q => ?run⟩
  case run =>
    iintro ⟨H3, H4, H5, H6, H7, H8, H9, H10, Hk⟩
    sl_exec_parts (disch := exact hc)
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 400000 in
/-- The body at a later grid point, up to the call of the loop: the 80 tiles of the block are stored, and the pointer is
    read. -/
noncomputable def runLater (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    { W : List (View.Piece (Elt F) S1024x1280 .f32) //
      ∀ (i : grid0.Coords)
    (hc : ¬Scalar.cmpi .ne (Scalar.extui (Scalar.cmpi .eq (BitVec.ofNat 32 (i 0).val) 0#32)) (0#32 : BitVec 32) = 1#1)
    (M1 : Memref sig .tc .smem S256 .i32) (h1 : M1.IsWhole) (M2 : Memref sig .tc .smem S256 .f32) (h2 : M2.IsWhole)
     (h3 : M3.IsWhole)  (h4 : M4.IsWhole)
     (h5 : M5.IsWhole)  (h6 : M6.IsWhole)
     (h7 : M7.IsWhole) (M8 : Memref sig .tc .vmem S1024x1280 .f32) (h8 : M8.IsWhole)
    (M9 : Memref sig .tc .vmem S256x1280 .f32) (h9 : M9.IsWhole) (M10 : Memref sig .tc .smem S1 .i32) (h10 : M10.IsWhole)
     (f8 : Bf (F := F) c M8) (f9 : Bf (F := F) c M9) (f10 : Bf (F := F) c M10)
    (Q : PUnit → sProp 𝕄),
    iprop(pt c M3 f3 ∗ pt c M4 f4 ∗ pt c M5 f5 ∗ pt c M6 f6 ∗ pt c M7 f7 ∗ pt c M8 f8 ∗ pt c M9 f9 ∗ pt c M10 f10
      ∗ (pt c M3 f3 ∗ pt c M4 f4 ∗ pt c M5 f5 ∗ pt c M6 f6 ∗ pt c M7 f7 ∗ pt c M8 (M8.view.writes (Elt F) f8 W)
           ∗ pt c M9 f9 ∗ pt c M10 f10
         -∗ wp frame (wpE (defs₀ (F := F)) 𝒱₀ c none) Set.univ
              (tail i M1 h1 M2 h2 M8 h8 M9 h9 M10 ((M10.access (Rect.unit (s := S1) ![0] S1.size inb_S1_S1_0)).read (Elt F) f10 (Shape.Idx.first (numel1_S1.symm ▸ Nat.one_pos)))) Q))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q } := by
  refine ⟨?_, fun i hc M1 h1 M2 h2 h3 h4 h5 h6 h7 M8 h8 M9 h9 M10 h10 f8 f9 f10 Q => ?run⟩
  case run =>
    iintro ⟨H3, H4, H5, H6, H7, H8, H9, H10, Hk⟩
    sl_exec_parts (disch := exact hc)
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ### The tiles: tile `k` is row tile `k / 10`, column tile `k % 10`. -/

/-- Each of the 80 sub-tiles lies inside the 1024x1280 block. -/
theorem inb_tile (k : Fin 80) (a : Fin 2) : (![128 * (k.val / 10), 128 * (k.val % 10)] : Fin 2 → ℕ) a + S128x128.size a ≤ S1024x1280.size a := by
  fin_cases a <;> [show 128 * (k.val / 10) + 128 ≤ 1024; show 128 * (k.val % 10) + 128 ≤ 1280] <;> omega

/-- The 128 columns that a sub-tile reads of the activations lie inside their 1280. -/
theorem sl_x (k : Fin 80) : (S128x1280).Slices ![0, 128 * (k.val % 10)] S128x128 :=
  ⟨rfl, fun a => by fin_cases a <;> [show 0 + 128 ≤ 128; show 128 * (k.val % 10) + 128 ≤ 1280] <;> omega⟩
theorem sl_s (k : Fin 80) : (S1x1280).Slices ![0, 128 * (k.val % 10)] S1x128 :=
  ⟨rfl, fun a => by fin_cases a <;> [show 0 + 1 ≤ 1; show 128 * (k.val % 10) + 128 ≤ 1280] <;> omega⟩
theorem inb_d (k : Fin 80) (a : Fin 2) : (![0, 128 * (k.val / 10)] : Fin 2 → ℕ) a + S256x128.size a ≤ S256x1024.size a := by
  fin_cases a <;> [show 0 + 256 ≤ 256; show 128 * (k.val / 10) + 128 ≤ 1024] <;> omega
theorem inb_s (k : Fin 80) (a : Fin 2) : (![0, 128 * (k.val / 10)] : Fin 2 → ℕ) a + S1x128.size a ≤ S1x1024.size a := by
  fin_cases a <;> [show 0 + 1 ≤ 1; show 128 * (k.val / 10) + 128 ≤ 1024] <;> omega

/-- What is stored at tile `k`: the product of the tile's columns of `D` with the tile's columns of `X`, scaled by rows and by columns. -/
def tileVal (D : S256x1024.Idx → Elt F .fp8e4m3) (DS : S1x1024.Idx → Elt F .f32) (X : S256x1280.Idx → Elt F .fp8e4m3)
    (XS : S1x1280.Idx → Elt F .f32) (k : Fin 80) : FVec F S128x128 .f32 :=
  mulf (mulf (extractStridedSlice S128x128 ![0, 128 * (k.val % 10)]
      (k0_pay5 X (VecWindow.window D ![0, 128 * (k.val / 10)] S256x128.size (inb_d k))) (sl_x k))
    (k0_pay6 (VecWindow.window DS ![0, 128 * (k.val / 10)] S1x128.size (inb_s k))))
    (broadcastTo S128x128 (extractStridedSlice S1x128 ![0, 128 * (k.val % 10)] (k0_pay4 XS) (sl_s k)) broadcasts_S1x128_S128x128)

set_option maxHeartbeats 400000 in
/-- The tiles stored at the first point. -/
theorem first_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    (runFirst c M3 M4 M5 M6 M7 f3 f4 f5 f6 f7).1.1 = View.tilePieces (Val := Elt F) (e := .f32) (s := S1024x1280) S128x128.size (fun k : Fin 80 => ![128 * (k.val / 10), 128 * (k.val % 10)]) inb_tile
      (tileVal (M3.view.read (Elt F) f3) (M4.view.read (Elt F) f4)
       (VecWindow.window (M5.view.read (Elt F) f5) ![0,0] S256x1280.size inb_S256x1280_S256x1280_0_0)
       (VecWindow.window (M6.view.read (Elt F) f6) ![0,0] S1x1280.size inb_S1x1280_S1x1280_0_0)) 80 (le_refl _) := by
  rfl

set_option maxHeartbeats 400000 in
/-- The tiles stored at a later point. -/
theorem later_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2)
    (f3 : Bf (F := F) c M3) (f4 : Bf (F := F) c M4) (f5 : Bf (F := F) c M5)
    (f6 : Bf (F := F) c M6) (f7 : Bf (F := F) c M7) :
    (runLater c M3 M4 M5 M6 M7 f3 f4 f5 f6 f7).1 = View.tilePieces (Val := Elt F) (e := .f32) (s := S1024x1280) S128x128.size (fun k : Fin 80 => ![128 * (k.val / 10), 128 * (k.val % 10)]) inb_tile
      (tileVal (M3.view.read (Elt F) f3) (M4.view.read (Elt F) f4)
       (VecWindow.window (M5.view.read (Elt F) f5) ![0,0] S256x1280.size inb_S256x1280_S256x1280_0_0)
       (VecWindow.window (M6.view.read (Elt F) f6) ![0,0] S1x1280.size inb_S1x1280_S1x1280_0_0)) 80 (le_refl _) := by
  rfl

/-- What the scratch of embedding rows holds after the first point: the widened rows. -/
theorem nine_eq (c : Dev nD)
    (M3 : Memref sig .tc .vmem S256x1024 .fp8e4m3) (M4 : Memref sig .tc .vmem S1x1024 .f32)
    (M5 : Memref sig .tc .vmem S256x1280 .fp8e4m3) (M6 : Memref sig .tc .vmem S1x1280 .f32)
    (M7 : Memref sig .tc .vmem S256x1280 .fp8e5m2) (M9 : Memref sig .tc .vmem S256x1280 .f32)
    (f3 : Bf (F := F) c M3) (f4 : Bf (F := F) c M4) (f5 : Bf (F := F) c M5)
    (f6 : Bf (F := F) c M6) (f7 : Bf (F := F) c M7) (f9 : Bf (F := F) c M9) :
    M9.view.read (Elt F) (M9.view.writes (Elt F) f9 (runFirst c M3 M4 M5 M6 M7 f3 f4 f5 f6 f7).1.2.1)
      = extf (s := S256x1280) .f32 (M7.view.read (Elt F) f7) bitsLt_fp8e5m2_f32 := by
  have h : (runFirst c M3 M4 M5 M6 M7 f3 f4 f5 f6 f7).1.2.1
      = [⟨Rect.unit (s := S256x1280) ![0, 0] S256x1280.size inb_S256x1280_S256x1280_0_0,
          k0_pay2 (M7.view.readAt (Elt F) (Rect.unit (s := S256x1280) ![0, 0] S256x1280.size inb_S256x1280_S256x1280_0_0).toLoadRect f7)⟩] := rfl
  rw [h, View.read_writes_full]
  unfold k0_pay2
  dsimp only
  rw [shapeCast_self, View.readAt_full]

/-- The block as the tiles leave it, entry by entry. -/
def head (D : S256x1024.Idx → Elt F .fp8e4m3) (DS : S1x1024.Idx → Elt F .f32) (X : S256x1280.Idx → Elt F .fp8e4m3)
    (XS : S1x1280.Idx → Elt F .f32) : S1024x1280.Idx → Elt F .f32 := fun y =>
  tileVal D DS X XS ⟨10 * ((y 0).val / 128) + (y 1).val / 128, by
      have h0 : (y 0).val < 1024 := (y 0).isLt
      have h1 : (y 1).val < 1280 := (y 1).isLt
      omega⟩
    (ix2 ⟨(y 0).val % 128, Nat.mod_lt _ (by decide)⟩ ⟨(y 1).val % 128, Nat.mod_lt _ (by decide)⟩)

/-- A tile among the first `j` is one of their pieces, and every piece is such a tile. -/
theorem mem_tilePieces (P : Fin 80 → S128x128.Idx → Elt F .f32) (p : View.Piece (Elt F) S1024x1280 .f32) :
    ∀ (j : ℕ) (hj : j ≤ 80), p ∈ View.tilePieces (Val := Elt F) (e := .f32) (s := S1024x1280) S128x128.size (fun k : Fin 80 => ![128 * (k.val / 10), 128 * (k.val % 10)]) inb_tile P j hj
      ↔ ∃ k : Fin 80, k.val < j ∧ p = ⟨Rect.unit (s := S1024x1280) ![128 * (k.val / 10), 128 * (k.val % 10)] S128x128.size (inb_tile k), P k⟩
  | 0, _ => by simp [View.tilePieces]
  | j + 1, hj => by
    rw [View.tilePieces_succ, List.mem_cons, mem_tilePieces P p j (Nat.le_of_succ_le hj)]
    constructor
    · rintro (h | ⟨k, hk, h⟩)
      · exact ⟨⟨j, hj⟩, Nat.lt_succ_self j, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨j, hj⟩ := Fin.ext hk
        exact .inl h

/-- The block the tiles leave, whatever was in it before. -/
theorem read_tiles (M8 : Memref sig .tc .vmem S1024x1280 .f32) (f8 : M8.view.ty.Contents (Elt F))
    (D : S256x1024.Idx → Elt F .fp8e4m3) (DS : S1x1024.Idx → Elt F .f32) (X : S256x1280.Idx → Elt F .fp8e4m3) (XS : S1x1280.Idx → Elt F .f32) :
    M8.view.read (Elt F) (M8.view.writes (Elt F) f8 (View.tilePieces (Val := Elt F) (e := .f32) (s := S1024x1280) S128x128.size (fun k : Fin 80 => ![128 * (k.val / 10), 128 * (k.val % 10)]) inb_tile
      (tileVal D DS X XS) 80 (le_refl _))) = head D DS X XS := by
  funext y
  refine View.read_writes_apply_of_pieces _ _ (head D DS X XS) _ ?_ y ?_
  · intro p hp x
    obtain ⟨k, hk, rfl⟩ := (mem_tilePieces _ p 80 (le_refl _)).mp hp
    have x0 : (x 0).val < 128 := (x 0).isLt
    have x1 : (x 1).val < 128 := (x 1).isLt
    have e0 : ((Rect.unit (s := S1024x1280) ![128 * (k.val / 10), 128 * (k.val % 10)] S128x128.size (inb_tile k)).emb x 0).val = 128 * (k.val / 10) + (x 0).val :=
      (by rw [Nat.one_mul] : 128 * (k.val / 10) + 1 * (x 0).val = 128 * (k.val / 10) + (x 0).val)
    have e1 : ((Rect.unit (s := S1024x1280) ![128 * (k.val / 10), 128 * (k.val % 10)] S128x128.size (inb_tile k)).emb x 1).val = 128 * (k.val % 10) + (x 1).val :=
      (by rw [Nat.one_mul] : 128 * (k.val % 10) + 1 * (x 1).val = 128 * (k.val % 10) + (x 1).val)
    unfold head
    have hk' : (⟨10 * (((Rect.unit (s := S1024x1280) ![128 * (k.val / 10), 128 * (k.val % 10)] S128x128.size (inb_tile k)).emb x 0).val / 128)
        + ((Rect.unit (s := S1024x1280) ![128 * (k.val / 10), 128 * (k.val % 10)] S128x128.size (inb_tile k)).emb x 1).val / 128, by omega⟩ : Fin 80) = k :=
      Fin.ext (by show 10 * (_ / 128) + _ / 128 = k.val; rw [e0, e1]; omega)
    have hx : (ix2 ⟨((Rect.unit (s := S1024x1280) ![128 * (k.val / 10), 128 * (k.val % 10)] S128x128.size (inb_tile k)).emb x 0).val % 128, Nat.mod_lt _ (by decide)⟩
        ⟨((Rect.unit (s := S1024x1280) ![128 * (k.val / 10), 128 * (k.val % 10)] S128x128.size (inb_tile k)).emb x 1).val % 128, Nat.mod_lt _ (by decide)⟩ : S128x128.Idx) = x := by
      funext a; apply Fin.ext
      fin_cases a
      · show _ % 128 = (x 0).val
        rw [e0]; omega
      · show _ % 128 = (x 1).val
        rw [e1]; omega
    exact (congrArg₂ (fun k x => tileVal D DS X XS k x) hk' hx).symm
  · have h0 : (y 0).val < 1024 := (y 0).isLt
    have h1 : (y 1).val < 1280 := (y 1).isLt
    refine ⟨_, (mem_tilePieces _ _ 80 (le_refl _)).mpr ⟨⟨10 * ((y 0).val / 128) + (y 1).val / 128, by omega⟩, by show 10 * _ + _ < 80; omega, rfl⟩, ?_⟩
    rw [Rect.mem_set_unit]
    intro a
    fin_cases a
    · show 128 * ((10 * ((y 0).val / 128) + (y 1).val / 128) / 10) ≤ (y 0).val ∧ (y 0).val < 128 * ((10 * ((y 0).val / 128) + (y 1).val / 128) / 10) + 128
      omega
    · show 128 * ((10 * ((y 0).val / 128) + (y 1).val / 128) % 10) ≤ (y 1).val ∧ (y 1).val < 128 * ((10 * ((y 0).val / 128) + (y 1).val / 128) % 10) + 128
      omega

end Cert.KernelIdeal.Own

end
-- ==== Proof.KI.Body.lean ====
/-
  The kernel body, whole: from its operands' contents to the block it leaves, with the loop answered by its specification.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Run

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows

variable {F : FTy → Type} [FloatOps F]

local notation "𝕄" => MT nD τ sig Unit (Elt F) ℕ (UR sig nD τ) ℕ

section Body

variable (c : Dev nD) (i : grid0.Coords) (M1 : Memref sig .tc .smem S256 .i32) (h1 : M1.IsWhole) (M2 : Memref sig .tc .smem S256 .f32) (h2 : M2.IsWhole)
    (M3 : Memref sig .tc .vmem S256x1024 .fp8e4m3) (h3 : M3.IsWhole) (M4 : Memref sig .tc .vmem S1x1024 .f32) (h4 : M4.IsWhole)
    (M5 : Memref sig .tc .vmem S256x1280 .fp8e4m3) (h5 : M5.IsWhole) (M6 : Memref sig .tc .vmem S1x1280 .f32) (h6 : M6.IsWhole)
    (M7 : Memref sig .tc .vmem S256x1280 .fp8e5m2) (h7 : M7.IsWhole)
    (M8 : Memref sig .tc .vmem S1024x1280 .f32) (h8 : M8.IsWhole) (M9 : Memref sig .tc .vmem S256x1280 .f32) (h9 : M9.IsWhole)
    (M10 : Memref sig .tc .smem S1 .i32) (h10 : M10.IsWhole)
    (q : PosShare TreeShare) (f1 : Bf (F := F) c M1) (f2 : Bf (F := F) c M2)

/-- The rest of the body from the loop on: entered at the number of ids below the block, it adds the rows of the ids in
    the block and leaves the number of ids below the block's end in the pointer. -/
theorem tail_le (hA : Ascends (M1.view.read (Elt F) f1)) (f8 : Bf (F := F) c M8) (f9 : Bf (F := F) c M9) (f10 : Bf (F := F) c M10)
    (v : BitVec 32) (hv : v = BitVec.ofNat 32 (cnt (M1.view.read (Elt F) f1) (1024 * (i 0).val))) (Q : PUnit → sProp 𝕄) :
    iprop((held c M1 M2 M9 q f1 f2 f9 ∗ pt c M8 f8) ∗ pt c M10 f10
      ∗ (∀ f8' : Bf (F := F) c M8, ∀ f10' : Bf (F := F) c M10,
          ⌜M8.view.read (Elt F) f8' = rowsOf c i M1 M2 M9 f1 f2 f9
              (cnt (M1.view.read (Elt F) f1) (1024 * ((i 0).val + 1)) - cnt (M1.view.read (Elt F) f1) (1024 * (i 0).val))
              (cnt (M1.view.read (Elt F) f1) (1024 * (i 0).val)) (M8.view.read (Elt F) f8)⌝
          -∗ ⌜M10.view.read (Elt F) f10' = fun _ => BitVec.ofNat 32 (cnt (M1.view.read (Elt F) f1) (1024 * ((i 0).val + 1)))⌝
          -∗ ((held c M1 M2 M9 q f1 f2 f9 ∗ pt c M8 f8') ∗ pt c M10 f10') -∗ Q ⟨⟩))
    ⊢ wp frame (wpE (defs₀ (F := F)) 𝒱₀ c none) Set.univ (tail i M1 h1 M2 h2 M8 h8 M9 h9 M10 v) Q := by
  subst hv
  have hm : cnt (M1.view.read (Elt F) f1) (1024 * (i 0).val) ≤ cnt (M1.view.read (Elt F) f1) (1024 * ((i 0).val + 1)) := cnt_mono (by omega)
  unfold tail
  simp only [smemLoad, smemLoadElt, Prog.lift, Prog.bind_op, Prog.bind_ret, Prog.pure_eq_ret]
  iintro ⟨H, H10, Hk⟩
  iapply (wp_call_spec 𝒱₀ (c : Thread nD τ) none Set.univ
    (spec c i M1 M2 M8 M9 q f1 f2 f9 (cnt (M1.view.read (Elt F) f1) (1024 * (i 0).val))
      (cnt (M1.view.read (Elt F) f1) (1024 * ((i 0).val + 1)) - cnt (M1.view.read (Elt F) f1) (1024 * (i 0).val)) f8)
    (cnt (M1.view.read (Elt F) f1) (1024 * ((i 0).val + 1)) - cnt (M1.view.read (Elt F) f1) (1024 * (i 0).val))
    (fun u hu => nomatch hu)
    (spec_le c i M1 h1 M2 h2 M8 h8 M9 h9 q f1 f2 f9 Set.univ hA _ _ (by omega) (le_refl _) f8))
  rw [spec_apply]
  isplitl [H]; · iexact H
  iintro %f8' %hf8 H
  rw [Nat.add_sub_cancel' hm]
  iapply (wp_load 𝒱₀ (c : Thread nD τ) none Set.univ (m := M10) (Finset.subset_univ _)) $$ H10; iintro H10
  iapply (wp_store_writes₀ 𝒱₀ (c : Thread nD τ) none Set.univ (m := M10) (f := f10)
      (r := Rect.unit (s := S1) ![0] S1.size inb_S1_S1_0) (S := Finset.univ) (Finset.subset_univ _)) $$ H10; iintro H10
  rw [wp_ret]; imodintro
  iapply Hk $$ %f8' %(M10.view.writes (Elt F) f10 [⟨Rect.unit (s := S1) ![0] S1.size inb_S1_S1_0,
    fun _ => BitVec.ofNat 32 (cnt (M1.view.read (Elt F) f1) (1024 * ((i 0).val + 1)))⟩])
  · ipureintro; exact hf8
  · ipureintro; exact View.read_writes_full ..
  isplitl [H]; · iexact H
  iexact H10

/-- The block the body leaves: the tiles, then the rows of the ids in the block added. -/
def block (i : grid0.Coords) (ids : S256.Idx → Elt F .i32) (es : S256.Idx → Elt F .f32) (D : S256x1024.Idx → Elt F .fp8e4m3)
    (DS : S1x1024.Idx → Elt F .f32) (X : S256x1280.Idx → Elt F .fp8e4m3) (XS : S1x1280.Idx → Elt F .f32)
    (EC : S256x1280.Idx → Elt F .fp8e5m2) : S1024x1280.Idx → Elt F .f32 :=
  rows ids es (extf (s := S256x1280) .f32 EC bitsLt_fp8e5m2_f32) (1024 * (i 0).val) (cnt ids (1024 * ((i 0).val + 1)) - cnt ids (1024 * (i 0).val))
    (cnt ids (1024 * (i 0).val)) (head D DS X XS)

/-- The body at any point: if after the first point the scratch holds the widened embedding rows and the pointer the number
    of ids below the block, it leaves the block, the widened rows and the number of ids below the block's end. -/
theorem body_le (hA : Ascends (M1.view.read (Elt F) f1)) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (hst : (i 0).val ≠ 0 → M9.view.read (Elt F) f9 = extf (s := S256x1280) .f32 (M7.view.read (Elt F) f7) bitsLt_fp8e5m2_f32
      ∧ M10.view.read (Elt F) f10 = fun _ => BitVec.ofNat 32 (cnt (M1.view.read (Elt F) f1) (1024 * (i 0).val))) (Q : PUnit → sProp 𝕄) :
    iprop((M1.view.loc (c : Thread nD τ) ↦{q} f1) ∗ pt c M2 f2 ∗ pt c M3 f3 ∗ pt c M4 f4 ∗ pt c M5 f5 ∗ pt c M6 f6 ∗ pt c M7 f7 ∗ pt c M8 f8 ∗ pt c M9 f9 ∗ pt c M10 f10
      ∗ (∀ f8' : Bf (F := F) c M8, ∀ f9' : Bf (F := F) c M9, ∀ f10' : Bf (F := F) c M10,
          ⌜M8.view.read (Elt F) f8' = block i (M1.view.read (Elt F) f1) (M2.view.read (Elt F) f2) (M3.view.read (Elt F) f3)
              (M4.view.read (Elt F) f4) (M5.view.read (Elt F) f5) (M6.view.read (Elt F) f6) (M7.view.read (Elt F) f7)⌝
          -∗ ⌜M9.view.read (Elt F) f9' = extf (s := S256x1280) .f32 (M7.view.read (Elt F) f7) bitsLt_fp8e5m2_f32⌝
          -∗ ⌜M10.view.read (Elt F) f10' = fun _ => BitVec.ofNat 32 (cnt (M1.view.read (Elt F) f1) (1024 * ((i 0).val + 1)))⌝
          -∗ ((M1.view.loc (c : Thread nD τ) ↦{q} f1) ∗ pt c M2 f2 ∗ pt c M3 f3 ∗ pt c M4 f4 ∗ pt c M5 f5 ∗ pt c M6 f6 ∗ pt c M7 f7 ∗ pt c M8 f8' ∗ pt c M9 f9' ∗ pt c M10 f10')
          -∗ Q ⟨⟩))
    ⊢ wp frame (wpE (defs₀ (F := F)) 𝒱₀ c none) Set.univ
        (cc0_tied_embedding_weight_grad i M1 h1 M2 h2 M3 h3 M4 h4 M5 h5 M6 h6 M7 h7 M8 h8 M9 h9 M10 h10) Q := by
  have hi : (i 0).val < 50 := (i 0).isLt
  have x5 : VecWindow.window (M5.view.read (Elt F) f5) ![0,0] S256x1280.size inb_S256x1280_S256x1280_0_0 = M5.view.read (Elt F) f5 :=
    (View.readAt_unit M5.view f5 inb_S256x1280_S256x1280_0_0 rfl inb_S256x1280_S256x1280_0_0).symm.trans (View.readAt_full M5.view f5 inb_S256x1280_S256x1280_0_0)
  have x6 : VecWindow.window (M6.view.read (Elt F) f6) ![0,0] S1x1280.size inb_S1x1280_S1x1280_0_0 = M6.view.read (Elt F) f6 :=
    (View.readAt_unit M6.view f6 inb_S1x1280_S1x1280_0_0 rfl inb_S1x1280_S1x1280_0_0).symm.trans (View.readAt_full M6.view f6 inb_S1x1280_S1x1280_0_0)
  by_cases h0 : (i 0).val = 0
  · iintro ⟨H1, H2, H3, H4, H5, H6, H7, H8, H9, H10, Hk⟩
    iapply ((runFirst c M3 M4 M5 M6 M7 f3 f4 f5 f6 f7).2 i ((first_iff _ hi).mpr h0) M1 h1 M2 h2 h3 h4 h5 h6 h7 M8 h8 M9 h9 M10 h10 f8 f9 f10 Q)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H3, H4, H5, H6, H7, H8, H9, H10⟩
    iapply (tail_le c i M1 h1 M2 h2 M8 h8 M9 h9 M10 q f1 f2 hA _ _ _ _ (by rw [h0, Nat.mul_zero, cnt_zero]) Q)
    isplitl [H1 H2 H9 H8]
    · unfold held
      isplitl [H1 H2 H9]
      · isplitl [H1]; · iexact H1
        isplitl [H2]; · iexact H2
        iexact H9
      iexact H8
    isplitl [H10]; · iexact H10
    iintro %f8' %f10' %hf8 %hf10 H
    unfold held
    icases H with ⟨⟨⟨H1, H2, H9⟩, H8⟩, H10⟩
    iapply Hk $$ %f8' %(M9.view.writes (Elt F) f9 (runFirst c M3 M4 M5 M6 M7 f3 f4 f5 f6 f7).1.2.1) %f10'
    · ipureintro
      rw [hf8, first_eq, read_tiles, x5, x6]
      unfold rowsOf block
      rw [nine_eq]
    · ipureintro; exact nine_eq ..
    · ipureintro; exact hf10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · obtain ⟨hf9, hf10⟩ := hst h0
    iintro ⟨H1, H2, H3, H4, H5, H6, H7, H8, H9, H10, Hk⟩
    iapply ((runLater c M3 M4 M5 M6 M7 f3 f4 f5 f6 f7).2 i (fun h => h0 ((first_iff _ hi).mp h)) M1 h1 M2 h2 h3 h4 h5 h6 h7 M8 h8 M9 h9 M10 h10 f8 f9 f10 Q)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H3, H4, H5, H6, H7, H8, H9, H10⟩
    iapply (tail_le c i M1 h1 M2 h2 M8 h8 M9 h9 M10 q f1 f2 hA _ _ _ _ (congrFun hf10 _) Q)
    isplitl [H1 H2 H9 H8]
    · unfold held
      isplitl [H1 H2 H9]
      · isplitl [H1]; · iexact H1
        isplitl [H2]; · iexact H2
        iexact H9
      iexact H8
    isplitl [H10]; · iexact H10
    iintro %f8' %f10' %hf8 %hf10' H
    unfold held
    icases H with ⟨⟨⟨H1, H2, H9⟩, H8⟩, H10⟩
    iapply Hk $$ %f8' %f9 %f10'
    · ipureintro
      rw [hf8, later_eq, read_tiles, x5, x6]
      unfold rowsOf block
      rw [hf9]
    · ipureintro; exact hf9
    · ipureintro; exact hf10'
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.KernelIdeal.Own

end
-- ==== Proof.KI.Point.lean ====
/-
  One grid point: the body from its operands owned at given contents and the state carried between points to the block it
  leaves and the state at the next point.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Body

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows

variable {F : FTy → Type} [FloatOps F]

local notation "𝕄" => MT nD τ sig Unit (Elt F) ℕ (UR sig nD τ) ℕ

/-- A whole memref owned at contents read as `X` is its buffer held at contents read as `X`. -/
theorem owns_pt (c : Dev nD) {sp : Space} {s : Shape} {e : EltTy} (M : Memref sig .tc sp s e) (h : M.IsWhole) (X : s.Idx → Elt F e) :
    (owns (c : Thread nD τ) M fullShare X : sProp 𝕄) ⊣⊢ iprop(∃ f : Bf (F := F) c M, ⌜M.view.read (Elt F) f = X⌝ ∗ pt c M f) := by
  obtain ⟨b, hsp, hsh, he, h⟩ := h
  subst hsp hsh he
  obtain rfl := eq_of_heq h
  rw [owns_whole_eq]
  simp only [Memref.view_whole, View.read_whole]
  exact .rfl

/-- What is carried from point to point: before point `n` (after the first) the scratch holds the widened embedding rows
    and the pointer the number of ids below block `n`; the table of ids and the generator register stay. -/
def carried (c : Dev nD) (ids : S256.Idx → Elt F .i32) (EC : S256x1280.Idx → Elt F .fp8e5m2) (n : ℕ) : sProp 𝕄 :=
  iprop(∃ f9 : Buf (Elt F) ((c : Thread nD τ).loc cc0_scratch0), ∃ f10 : Buf (Elt F) ((c : Thread nD τ).loc cc0_scratch1),
    ⌜n ≠ 0 → f9 = extf (s := S256x1280) .f32 EC bitsLt_fp8e5m2_f32 ∧ f10 = fun _ => BitVec.ofNat 32 (cnt ids (1024 * n))⌝
    ∗ (((c : Thread nD τ).loc cc0_scratch0) ↦{fullShare} f9) ∗ (((c : Thread nD τ).loc cc0_scratch1) ↦{fullShare} f10)
    ∗ (∃ r, prngReg c r) ∗ (((c : Thread nD τ).loc main_arg6) ↦{fullShare.right} ids))

/-- The body at a point of the grid. -/
theorem point_le (c : Dev nD) (i : grid0.Coords) (M2 : Memref sig .tc .smem S256 .f32) (h2 : M2.IsWhole)
    (M3 : Memref sig .tc .vmem S256x1024 .fp8e4m3) (h3 : M3.IsWhole) (M4 : Memref sig .tc .vmem S1x1024 .f32) (h4 : M4.IsWhole)
    (M5 : Memref sig .tc .vmem S256x1280 .fp8e4m3) (h5 : M5.IsWhole) (M6 : Memref sig .tc .vmem S1x1280 .f32) (h6 : M6.IsWhole)
    (M7 : Memref sig .tc .vmem S256x1280 .fp8e5m2) (h7 : M7.IsWhole) (M8 : Memref sig .tc .vmem S1024x1280 .f32) (h8 : M8.IsWhole)
    (ids : S256.Idx → Elt F .i32) (hA : Ascends ids) (ES : S256.Idx → Elt F .f32) (D : S256x1024.Idx → Elt F .fp8e4m3)
    (DS : S1x1024.Idx → Elt F .f32) (X : S256x1280.Idx → Elt F .fp8e4m3) (XS : S1x1280.Idx → Elt F .f32)
    (EC : S256x1280.Idx → Elt F .fp8e5m2) (Y : S1024x1280.Idx → Elt F .f32) (Q : PUnit → sProp 𝕄) :
    iprop(carried c ids EC (i 0).val ∗ owns (c : Thread nD τ) M2 fullShare ES ∗ owns (c : Thread nD τ) M3 fullShare D
      ∗ owns (c : Thread nD τ) M4 fullShare DS ∗ owns (c : Thread nD τ) M5 fullShare X ∗ owns (c : Thread nD τ) M6 fullShare XS
      ∗ owns (c : Thread nD τ) M7 fullShare EC ∗ owns (c : Thread nD τ) M8 fullShare Y
      ∗ ((carried c ids EC ((i 0).val + 1) ∗ owns (c : Thread nD τ) M2 fullShare ES ∗ owns (c : Thread nD τ) M3 fullShare D
        ∗ owns (c : Thread nD τ) M4 fullShare DS ∗ owns (c : Thread nD τ) M5 fullShare X ∗ owns (c : Thread nD τ) M6 fullShare XS
        ∗ owns (c : Thread nD τ) M7 fullShare EC ∗ owns (c : Thread nD τ) M8 fullShare (block i ids ES D DS X XS EC)) -∗ Q ⟨⟩))
    ⊢ wp frame (wpE (defs₀ (F := F)) 𝒱₀ c none) Set.univ
        (cc0_tied_embedding_weight_grad i (Memref.whole main_arg6) (Memref.isWhole_whole _) M2 h2 M3 h3 M4 h4 M5 h5 M6 h6 M7 h7 M8 h8
          (Memref.whole cc0_scratch0) (Memref.isWhole_whole _) (Memref.whole cc0_scratch1) (Memref.isWhole_whole _)) Q := by
  iintro ⟨HC, H2, H3, H4, H5, H6, H7, H8, Hk⟩
  unfold carried
  icases HC with ⟨%f9, %f10, %hst, H9, H10, Hg, H1⟩
  icases (owns_pt c M2 h2 ES).1 $$ H2 with ⟨%f2, %e2, H2⟩
  icases (owns_pt c M3 h3 D).1 $$ H3 with ⟨%f3, %e3, H3⟩
  icases (owns_pt c M4 h4 DS).1 $$ H4 with ⟨%f4, %e4, H4⟩
  icases (owns_pt c M5 h5 X).1 $$ H5 with ⟨%f5, %e5, H5⟩
  icases (owns_pt c M6 h6 XS).1 $$ H6 with ⟨%f6, %e6, H6⟩
  icases (owns_pt c M7 h7 EC).1 $$ H7 with ⟨%f7, %e7, H7⟩
  icases (owns_pt c M8 h8 Y).1 $$ H8 with ⟨%f8, %e8, H8⟩
  subst e2 e3 e4 e5 e6 e7 e8
  iapply (body_le c i (Memref.whole main_arg6) (Memref.isWhole_whole _) M2 h2 M3 h3 M4 h4 M5 h5 M6 h6 M7 h7 M8 h8
    (Memref.whole cc0_scratch0) (Memref.isWhole_whole _) (Memref.whole cc0_scratch1) (Memref.isWhole_whole _) fullShare.right ids f2 hA f3 f4 f5 f6 f7 f8 f9 f10
    hst Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %f8' %f9' %f10' %e8 %e9 %e10 ⟨H1, H2, H3, H4, H5, H6, H7, H8, H9, H10⟩
  iapply Hk
  isplitl [H1 H9 H10 Hg]
  · iexists f9'; iexists f10'
    isplitr
    · ipureintro; exact fun _ => ⟨e9, e10⟩
    isplitl [H9]; · iexact H9
    isplitl [H10]; · iexact H10
    isplitl [Hg]; · iexact Hg
    iexact H1
  isplitl [H2]; · iapply (owns_pt c M2 h2 _).2; iexists f2; isplitr; (· ipureintro; rfl); iexact H2
  isplitl [H3]; · iapply (owns_pt c M3 h3 _).2; iexists f3; isplitr; (· ipureintro; rfl); iexact H3
  isplitl [H4]; · iapply (owns_pt c M4 h4 _).2; iexists f4; isplitr; (· ipureintro; rfl); iexact H4
  isplitl [H5]; · iapply (owns_pt c M5 h5 _).2; iexists f5; isplitr; (· ipureintro; rfl); iexact H5
  isplitl [H6]; · iapply (owns_pt c M6 h6 _).2; iexists f6; isplitr; (· ipureintro; rfl); iexact H6
  isplitl [H7]; · iapply (owns_pt c M7 h7 _).2; iexists f7; isplitr; (· ipureintro; rfl); iexact H7
  iapply (owns_pt c M8 h8 _).2; iexists f8'; isplitr; (· ipureintro; exact e8); iexact H8

end Cert.KernelIdeal.Own

end
-- ==== Proof.KI.Data.lean ====
/-
  What the pipeline moves: the contents of the arrays when the grid starts, what each staging buffer holds at each point,
  and the state carried from point to point.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Point
public import Idealize.ShloMosaic.Lib.Pipeline.FrameBody
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The contents of a buffer when the grid starts: the launch memory after the reshapes. -/
def V (c : Dev nD) (b : Ref sig .tc) : Buf (Elt F) ((c : Thread nD τ).loc b) := StableHlo.after hostOps0 (fun b => m (c, b)) b

/-- The table of ids when the grid starts. -/
def tbl : pre0.Contents (Elt F) := fun j => V m (0 : Dev nD) (pre0.ref j)

/-- The table that the launch prefetches is the array of ids. -/
theorem V_pre (c : Dev nD) (j : Fin 1) : V m c (pre0.ref j) = tbl m j := by
  obtain rfl : c = 0 := Subsingleton.elim _ _; rfl

/-- The pipeline at that table (no index map reads it, so any table will do). -/
def adm : (pcfg0 (F := F)).Adm := ⟨tbl m, trivial⟩

/-- What the staging buffer of a tile of the first operand holds at a point: the tile, and zero past the array's end. -/
def dTile (c : Dev nD) (t : Fin (cfg0 (adm m)).N) : S256x1024.Idx → Elt F .fp8e4m3 :=
  ((cfg0 (adm m)).win (1 : Fin 7)).fill ((cfg0 (adm m)).grid.coords t) (fun _ => FloatOps.ofBits .fp8e4m3 0)
    ((((cfg0 (adm m)).win (1 : Fin 7)).blk t).view.read (Elt F) (V m c main_v0))
/-- The same of the first operand's scales. -/
def sTile (c : Dev nD) (t : Fin (cfg0 (adm m)).N) : S1x1024.Idx → Elt F .f32 :=
  ((cfg0 (adm m)).win (2 : Fin 7)).fill ((cfg0 (adm m)).grid.coords t) (fun _ => FloatOps.ofBits .f32 0)
    ((((cfg0 (adm m)).win (2 : Fin 7)).blk t).view.read (Elt F) (V m c main_v1))

/-- The ids of the entries. -/
def ids (c : Dev nD) : S256.Idx → Elt F .i32 := V m c main_arg6
/-- The scales of the entries, the second operand, its scales, the coded entries. -/
def ES (c : Dev nD) : S256.Idx → Elt F .f32 := V m c main_arg5
def XC (c : Dev nD) : S256x1280.Idx → Elt F .fp8e4m3 := V m c main_v2
def XS (c : Dev nD) : S1x1280.Idx → Elt F .f32 := V m c main_v3
def EC (c : Dev nD) : S256x1280.Idx → Elt F .fp8e5m2 := V m c main_arg4

/-- The block the body leaves at a point. -/
def left (c : Dev nD) (t : Fin (cfg0 (adm m)).N) : S1024x1280.Idx → Elt F .f32 :=
  block (grid0.coords t) (ids m c) (ES m c) (dTile m c t) (sTile m c t) (XC m c) (XS m c) (EC m c)

/-- The proof data: the arrays as the grid finds them, the inputs left as they are and the result's block left, the carried
    state between points. -/
def dats (_ : Fin 1) (c : Dev nD) : Dat τ (Elt F) Unit ℕ (UR sig nD τ) ℕ (cfg0 (adm m)) c where
  A w := V m c (Pipeline.arrRef spec0 w)
  after w t := match w with
    | ⟨0, _⟩ => ES m c
    | ⟨1, _⟩ => dTile m c t
    | ⟨2, _⟩ => sTile m c t
    | ⟨3, _⟩ => XC m c
    | ⟨4, _⟩ => XS m c
    | ⟨5, _⟩ => EC m c
    | ⟨6, _⟩ => left m c t
  Φ t := carried c (ids m c) (EC m c) t.val
  q _ := fullShare
  owed _ := 0

/-- The array under each window is the one that the launch finds in memory. -/
theorem A_eq (c : Dev nD) (w : Fin (cfg0 (adm m)).W) : (dats m 0 c).A w = V m c (Pipeline.arrRef spec0 w) := by dsimp only [dats]

/-- The grid's one coordinate at a point is the point. -/
theorem coord_eq (t : Fin grid0.N) : (grid0.coords t 0).val = t.val := (by decide +kernel : ∀ t : Fin grid0.N, (grid0.coords t 0).val = t.val) t

/-- The staging buffers of the inputs hold their arrays' blocks. -/
theorem keep_0 (c : Dev nD) (t : Fin (cfg0 (adm m)).N) :
    ((cfg0 (adm m)).win (0 : Fin 7)).cut ((cfg0 (adm m)).grid.coords t) ((dats m 0 c).after (0 : Fin 7) t) = (dats m 0 c).blockOf (0 : Fin 7) t := by
  funext j
  blk_simp [Pipeline.Dat.blockOf_apply]
  show V m c main_arg5 _ = V m c main_arg5 _
  refine congrArg _ (funext fun a => Fin.ext ?_)
  refine Eq.trans ?_ (Pipeline.Window.rect_emb_val ((cfg0 (adm m)).win (0 : Fin 7)) t j a rfl).symm
  fin_cases a <;> exact (Nat.zero_add _).symm.trans (congrArg (· + _) (Nat.zero_mul _).symm)
theorem keep_1 (c : Dev nD) (t : Fin (cfg0 (adm m)).N) :
    ((cfg0 (adm m)).win (1 : Fin 7)).cut ((cfg0 (adm m)).grid.coords t) ((dats m 0 c).after (1 : Fin 7) t) = (dats m 0 c).blockOf (1 : Fin 7) t :=
  Window.cut_fill ..
theorem keep_2 (c : Dev nD) (t : Fin (cfg0 (adm m)).N) :
    ((cfg0 (adm m)).win (2 : Fin 7)).cut ((cfg0 (adm m)).grid.coords t) ((dats m 0 c).after (2 : Fin 7) t) = (dats m 0 c).blockOf (2 : Fin 7) t :=
  Window.cut_fill ..
theorem keep_3 (c : Dev nD) (t : Fin (cfg0 (adm m)).N) :
    ((cfg0 (adm m)).win (3 : Fin 7)).cut ((cfg0 (adm m)).grid.coords t) ((dats m 0 c).after (3 : Fin 7) t) = (dats m 0 c).blockOf (3 : Fin 7) t := by
  funext j
  blk_simp [Pipeline.Dat.blockOf_apply]
  show V m c main_v2 _ = V m c main_v2 _
  refine congrArg _ (funext fun a => Fin.ext ?_)
  refine Eq.trans ?_ (Pipeline.Window.rect_emb_val ((cfg0 (adm m)).win (3 : Fin 7)) t j a rfl).symm
  fin_cases a <;> exact (Nat.zero_add _).symm.trans (congrArg (· + _) (Nat.zero_mul _).symm)
theorem keep_4 (c : Dev nD) (t : Fin (cfg0 (adm m)).N) :
    ((cfg0 (adm m)).win (4 : Fin 7)).cut ((cfg0 (adm m)).grid.coords t) ((dats m 0 c).after (4 : Fin 7) t) = (dats m 0 c).blockOf (4 : Fin 7) t := by
  funext j
  blk_simp [Pipeline.Dat.blockOf_apply]
  show V m c main_v3 _ = V m c main_v3 _
  refine congrArg _ (funext fun a => Fin.ext ?_)
  refine Eq.trans ?_ (Pipeline.Window.rect_emb_val ((cfg0 (adm m)).win (4 : Fin 7)) t j a rfl).symm
  fin_cases a <;> exact (Nat.zero_add _).symm.trans (congrArg (· + _) (Nat.zero_mul _).symm)
theorem keep_5 (c : Dev nD) (t : Fin (cfg0 (adm m)).N) :
    ((cfg0 (adm m)).win (5 : Fin 7)).cut ((cfg0 (adm m)).grid.coords t) ((dats m 0 c).after (5 : Fin 7) t) = (dats m 0 c).blockOf (5 : Fin 7) t := by
  funext j
  blk_simp [Pipeline.Dat.blockOf_apply]
  show V m c main_arg4 _ = V m c main_arg4 _
  refine congrArg _ (funext fun a => Fin.ext ?_)
  refine Eq.trans ?_ (Pipeline.Window.rect_emb_val ((cfg0 (adm m)).win (5 : Fin 7)) t j a rfl).symm
  fin_cases a <;> exact (Nat.zero_add _).symm.trans (congrArg (· + _) (Nat.zero_mul _).symm)
/-- When the body runs an input's staging buffer holds its array's block, whatever it held past the array's end. -/
theorem before_0 (c : Dev nD) (t : Fin (cfg0 (adm m)).N) (d) : (dats m 0 c).before (0 : Fin 7) t d = (dats m 0 c).after (0 : Fin 7) t := by
  rw [(dats m 0 c).before_in_eq_fetched (0 : Fin 7) rfl (fun _ => rfl) (fun _ _ _ => rfl) (keep_0 m c) t d]
  unfold Dat.fetched
  rw [← keep_0 m c t]
  exact (Pipeline.fill_of_clip_none (cfg := cfg0 (adm m)) (0 : Fin 7) _ (fun _ => rfl) d ((dats m 0 c).after (0 : Fin 7) t) _).trans (Window.fill_cut ..)
theorem before_1 (c : Dev nD) (t : Fin (cfg0 (adm m)).N) (d) : (dats m 0 c).before (1 : Fin 7) t d = (dats m 0 c).fetched (1 : Fin 7) t d :=
  (dats m 0 c).before_in_eq_fetched (1 : Fin 7) rfl (fun _ => rfl)
    (fun t t' h => congrArg (fun f : Fin _ → ℕ => fun a => Pipeline.Clip.of (f a) ((spec0 1).size a) ((spec0 1).shape.size a)) h) (keep_1 m c) t d
theorem before_2 (c : Dev nD) (t : Fin (cfg0 (adm m)).N) (d) : (dats m 0 c).before (2 : Fin 7) t d = (dats m 0 c).fetched (2 : Fin 7) t d :=
  (dats m 0 c).before_in_eq_fetched (2 : Fin 7) rfl (fun _ => rfl)
    (fun t t' h => congrArg (fun f : Fin _ → ℕ => fun a => Pipeline.Clip.of (f a) ((spec0 2).size a) ((spec0 2).shape.size a)) h) (keep_2 m c) t d
theorem before_3 (c : Dev nD) (t : Fin (cfg0 (adm m)).N) (d) : (dats m 0 c).before (3 : Fin 7) t d = (dats m 0 c).after (3 : Fin 7) t := by
  rw [(dats m 0 c).before_in_eq_fetched (3 : Fin 7) rfl (fun _ => rfl) (fun _ _ _ => rfl) (keep_3 m c) t d]
  unfold Dat.fetched
  rw [← keep_3 m c t]
  exact (Pipeline.fill_of_clip_none (cfg := cfg0 (adm m)) (3 : Fin 7) _ (fun _ => rfl) d ((dats m 0 c).after (3 : Fin 7) t) _).trans (Window.fill_cut ..)
theorem before_4 (c : Dev nD) (t : Fin (cfg0 (adm m)).N) (d) : (dats m 0 c).before (4 : Fin 7) t d = (dats m 0 c).after (4 : Fin 7) t := by
  rw [(dats m 0 c).before_in_eq_fetched (4 : Fin 7) rfl (fun _ => rfl) (fun _ _ _ => rfl) (keep_4 m c) t d]
  unfold Dat.fetched
  rw [← keep_4 m c t]
  exact (Pipeline.fill_of_clip_none (cfg := cfg0 (adm m)) (4 : Fin 7) _ (fun _ => rfl) d ((dats m 0 c).after (4 : Fin 7) t) _).trans (Window.fill_cut ..)
theorem before_5 (c : Dev nD) (t : Fin (cfg0 (adm m)).N) (d) : (dats m 0 c).before (5 : Fin 7) t d = (dats m 0 c).after (5 : Fin 7) t := by
  rw [(dats m 0 c).before_in_eq_fetched (5 : Fin 7) rfl (fun _ => rfl) (fun _ _ _ => rfl) (keep_5 m c) t d]
  unfold Dat.fetched
  rw [← keep_5 m c t]
  exact (Pipeline.fill_of_clip_none (cfg := cfg0 (adm m)) (5 : Fin 7) _ (fun _ => rfl) d ((dats m 0 c).after (5 : Fin 7) t) _).trans (Window.fill_cut ..)

end Cert.KernelIdeal.Own

end
-- ==== Proof.Sum.lean ====
/-
  Over the extended reals the row loop is a sum: table row `r` gains the scaled embedding rows whose id names it.
-/
module

public import proofs.«01_k».proof.Proof.Rows
public import Idealize.ShloMosaic.PureOps.Ideal

@[expose] public section

noncomputable section

namespace Cert.Rows

open Idealize.ShloMosaic

variable (ids : (⟨1, ![256]⟩ : Shape).Idx → BitVec 32) (es : (⟨1, ![256]⟩ : Shape).Idx → EReal)
  (E : (⟨2, ![256, 1280]⟩ : Shape).Idx → EReal)

/-- One step of the loop adds the row's term where its id names the table row, and zero elsewhere. -/
theorem rowStep_ideal (B : ℕ) (j : Fin 256) (T : (⟨2, ![1024, 1280]⟩ : Shape).Idx → EReal) (y : (⟨2, ![1024, 1280]⟩ : Shape).Idx) :
    rowStep (F := Ideal) ids es E B j.val T y
      = T y + if (y 0).val = (ids (ix1 j)).toNat - B then E (ix2 j (y 1)) * es (ix1 j) else 0 := by
  unfold rowStep
  rw [dif_pos j.isLt]
  by_cases h : (y 0).val = (ids (ix1 j)).toNat - B
  · rw [if_pos h, if_pos h]; rfl
  · rw [if_neg h, if_neg h, add_zero]

/-- The loop over the `k` rows from `j` on adds the terms of those of them that name the table row. -/
theorem rows_ideal (B : ℕ) (k : ℕ) : ∀ (j : ℕ) (_ : j + k ≤ 256) (T : (⟨2, ![1024, 1280]⟩ : Shape).Idx → EReal)
    (y : (⟨2, ![1024, 1280]⟩ : Shape).Idx),
    rows (F := Ideal) ids es E B k j T y
      = T y + ∑ n : Fin 256, if (j ≤ n.val ∧ n.val < j + k) ∧ (y 0).val = (ids (ix1 n)).toNat - B
          then E (ix2 n (y 1)) * es (ix1 n) else 0 := by
  induction k with
  | zero =>
    intro j _ T y
    rw [Finset.sum_eq_zero fun n _ => if_neg fun h => by omega, add_zero]
    rfl
  | succ k ih =>
    intro j hj T y
    show rows (F := Ideal) ids es E B k (j + 1) (rowStep (F := Ideal) ids es E B j T) y = _
    have hlt : j < 256 := by omega
    rw [ih (j + 1) (by omega), rowStep_ideal ids es E B ⟨j, hlt⟩ T y, add_assoc]
    congr 1
    rw [← Finset.add_sum_erase Finset.univ (fun n : Fin 256 => if (j ≤ n.val ∧ n.val < j + (k + 1)) ∧ (y 0).val = (ids (ix1 n)).toNat - B
          then E (ix2 n (y 1)) * es (ix1 n) else 0) (Finset.mem_univ ⟨j, hlt⟩),
      ← Finset.add_sum_erase Finset.univ (fun n : Fin 256 => if (j + 1 ≤ n.val ∧ n.val < j + 1 + k) ∧ (y 0).val = (ids (ix1 n)).toNat - B
          then E (ix2 n (y 1)) * es (ix1 n) else 0) (Finset.mem_univ ⟨j, hlt⟩)]
    dsimp only
    rw [if_neg (c := (j + 1 ≤ j ∧ _) ∧ _) (fun h => by omega), zero_add]
    congr 1
    · refine if_congr ⟨fun h => ⟨⟨le_refl _, by omega⟩, h⟩, fun h => h.2⟩ rfl rfl
    · refine Finset.sum_congr rfl fun n hn => if_congr ?_ rfl rfl
      have hne : n.val ≠ j := fun h => (Finset.mem_erase.mp hn).1 (Fin.ext h)
      constructor <;> rintro ⟨⟨h1, h2⟩, h3⟩ <;> exact ⟨⟨by omega, by omega⟩, h3⟩

/-- So the loop of block `i`, which runs over the ids in the block, adds to table row `r` the terms of the ids equal to
    `1024 * i + r`. -/
theorem rows_block (h : Ascends ids) (i : ℕ) (T : (⟨2, ![1024, 1280]⟩ : Shape).Idx → EReal) (y : (⟨2, ![1024, 1280]⟩ : Shape).Idx) :
    rows (F := Ideal) ids es E (1024 * i) (cnt ids (1024 * (i + 1)) - cnt ids (1024 * i)) (cnt ids (1024 * i)) T y
      = T y + ∑ n : Fin 256, if (ids (ix1 n)).toNat = 1024 * i + (y 0).val then E (ix2 n (y 1)) * es (ix1 n) else 0 := by
  have hm : cnt ids (1024 * i) ≤ cnt ids (1024 * (i + 1)) := cnt_mono (by omega)
  have hle := cnt_le (ids := ids) (1024 * (i + 1))
  have hy : (y 0).val < 1024 := (y 0).isLt
  rw [rows_ideal ids es E _ _ _ (by omega)]
  congr 1
  refine Finset.sum_congr rfl fun n _ => if_congr ?_ rfl rfl
  have h1 := lt_cnt_iff h n (1024 * i)
  have h2 := lt_cnt_iff h n (1024 * (i + 1))
  omega

end Cert.Rows

end
-- ==== Proof.Grad.lean ====
/-
  The function that kernel and reference both compute, over the extended reals: the gradient of a tied embedding.
-/
module

public import Idealize.ShloMosaic.Lib.Pointwise.Index
public import Idealize.ShloMosaic.PureOps.Ideal

@[expose] public section

noncomputable section

namespace Cert.Rows

open Idealize.ShloMosaic

/-- Row `v`, column `d` of the gradient. From the output layer: the sum over sequences and positions of the products of the
    logits' gradients at `v` with the activations at `d`, scaled by `v`'s scale and by `d`'s. From the embedding: the sum of
    the scaled gradients of the tokens whose id is `v`. -/
def grad (D : (⟨3, ![2, 128, 50304]⟩ : Shape).Idx → EReal) (ds : (⟨1, ![50304]⟩ : Shape).Idx → EReal)
    (X : (⟨3, ![2, 128, 1280]⟩ : Shape).Idx → EReal) (xs : (⟨1, ![1280]⟩ : Shape).Idx → EReal)
    (E : (⟨2, ![256, 1280]⟩ : Shape).Idx → EReal) (es : (⟨1, ![256]⟩ : Shape).Idx → EReal)
    (ids : (⟨1, ![256]⟩ : Shape).Idx → BitVec 32) (v : Fin 50304) (d : Fin 1280) : EReal :=
  (∑ b : Fin 2, ∑ s : Fin 128, D (ix3 b s v) * X (ix3 b s d)) * ds (ix1 v) * xs (ix1 d)
    + ∑ n : Fin 256, if (ids (ix1 n)).toNat = v.val then E (ix2 n d) * es (ix1 n) else 0

/-- The same of operands whose two leading axes are merged into one of 256, and whose scales have a leading unit axis. -/
def gradFlat (D : (⟨2, ![256, 50304]⟩ : Shape).Idx → EReal) (ds : (⟨2, ![1, 50304]⟩ : Shape).Idx → EReal)
    (X : (⟨2, ![256, 1280]⟩ : Shape).Idx → EReal) (xs : (⟨2, ![1, 1280]⟩ : Shape).Idx → EReal)
    (E : (⟨2, ![256, 1280]⟩ : Shape).Idx → EReal) (es : (⟨1, ![256]⟩ : Shape).Idx → EReal)
    (ids : (⟨1, ![256]⟩ : Shape).Idx → BitVec 32) (v : Fin 50304) (d : Fin 1280) : EReal :=
  (∑ k : Fin 256, D (ix2 k v) * X (ix2 k d)) * ds (ix2 0 v) * xs (ix2 0 d)
    + ∑ n : Fin 256, if (ids (ix1 n)).toNat = v.val then E (ix2 n d) * es (ix1 n) else 0

/-- A sum over 256 merged coordinates is the double sum over the two axes. -/
theorem sum_merged (f : Fin 256 → EReal) :
    ∑ k : Fin 256, f k = ∑ b : Fin 2, ∑ s : Fin 128, f ⟨b.val * 128 + s.val, by have := b.isLt; have := s.isLt; omega⟩ := by
  rw [← Fintype.sum_prod_type']
  refine (Fintype.sum_equiv ((finProdFinEquiv (m := 2) (n := 128)).trans (finCongr rfl)) _ f fun p => congrArg f (Fin.ext ?_)).symm
  show p.1.val * 128 + p.2.val = p.2.val + 128 * p.1.val
  omega

/-- Merging changes nothing. -/
theorem gradFlat_eq {D ds X xs E es ids} {D' ds' X' xs'}
    (hD : ∀ (b : Fin 2) (s : Fin 128) (v : Fin 50304) (k : Fin 256), k.val = b.val * 128 + s.val → D' (ix2 k v) = D (ix3 b s v))
    (hds : ∀ v : Fin 50304, ds' (ix2 0 v) = ds (ix1 v))
    (hX : ∀ (b : Fin 2) (s : Fin 128) (d : Fin 1280) (k : Fin 256), k.val = b.val * 128 + s.val → X' (ix2 k d) = X (ix3 b s d))
    (hxs : ∀ d : Fin 1280, xs' (ix2 0 d) = xs (ix1 d)) (v : Fin 50304) (d : Fin 1280) :
    gradFlat D' ds' X' xs' E es ids v d = grad D ds X xs E es ids v d := by
  unfold gradFlat grad
  rw [sum_merged, hds, hxs]
  congr 3
  refine Finset.sum_congr rfl fun b _ => Finset.sum_congr rfl fun s _ => ?_
  rw [hD b s v _ rfl, hX b s d _ rfl]

end Cert.Rows

end
-- ==== Proof.KI.Tile.lean ====
/-
  The block over the extended reals: each of its elements, from the operands at that element's row and column.
-/
module

public import proofs.«01_k».proof.Proof.KI.Body
public import proofs.«01_k».proof.Proof.Sum
public import proofs.«01_k».proof.Proof.Grad
public import Idealize.ShloMosaic.Lib.Pointwise
public import Idealize.ShloMosaic.PureOps.Ideal.Laws

@[expose] public section

set_option maxRecDepth 16384

noncomputable section

namespace Cert.KernelIdeal.Own

open Cert.KernelIdeal Cert.KernelIdeal.Gen
open Idealize.ShloMosaic
open Cert.Rows

/-- An element of a tile: the sum of the products of the tile's row of `D` with its column of `X`, scaled by the row's scale and
    by the column's. -/
theorem tileVal_apply (D : S256x1024.Idx → EReal) (DS : S1x1024.Idx → EReal) (X : S256x1280.Idx → EReal) (XS : S1x1280.Idx → EReal)
    (k : Fin 80) (r s : Fin 128) (v : Fin 1024) (d : Fin 1280) (hv : v.val = 128 * (k.val / 10) + r.val) (hd : d.val = 128 * (k.val % 10) + s.val) :
    tileVal (F := Ideal) D DS X XS k (ix2 r s)
      = (∑ n : Fin 256, D (ix2 n v) * X (ix2 n d)) * DS (ix2 0 v) * XS (ix2 0 d) := by
  unfold tileVal k0_pay5 k0_pay6 k0_pay4 k0_pay3
  pointwise
  have hr : ∀ n : Fin 256, VecWindow.window D ![0, 128 * (k.val / 10)] S256x128.size (inb_d k) (ix2 n r) = D (ix2 n v) := fun n =>
    congrArg D (funext fun a => Fin.ext (by
      fin_cases a
      · show 0 + 1 * n.val = n.val; omega
      · show 128 * (k.val / 10) + 1 * r.val = v.val; omega))
  have hs : VecWindow.window DS ![0, 128 * (k.val / 10)] S1x128.size (inb_s k) (ix2 0 r) = DS (ix2 0 v) :=
    congrArg DS (funext fun a => Fin.ext (by
      fin_cases a
      · rfl
      · show 128 * (k.val / 10) + 1 * r.val = v.val; omega))
  have hlt : 128 * (k.val % 10) + s.val < 1280 := by clear hd; omega
  obtain rfl : d = ⟨128 * (k.val % 10) + s.val, hlt⟩ := Fin.ext hd
  exact congrArg (· * _) (congrArg₂ (· * ·) (Finset.sum_congr rfl fun n _ => congrArg (· * _) (hr n)) hs)

/-- The same of the block's first part, which all the tiles make up. -/
theorem head_apply (D : S256x1024.Idx → EReal) (DS : S1x1024.Idx → EReal) (X : S256x1280.Idx → EReal) (XS : S1x1280.Idx → EReal)
    (v : Fin 1024) (d : Fin 1280) :
    head (F := Ideal) D DS X XS (ix2 v d) = (∑ n : Fin 256, D (ix2 n v) * X (ix2 n d)) * DS (ix2 0 v) * XS (ix2 0 d) := by
  have hv := v.isLt
  have hd := d.isLt
  refine tileVal_apply D DS X XS _ _ _ v d ?_ ?_
  · show v.val = 128 * ((10 * (v.val / 128) + d.val / 128) / 10) + v.val % 128
    omega
  · show d.val = 128 * ((10 * (v.val / 128) + d.val / 128) % 10) + d.val % 128
    omega

/-- An element of the block at a point, from operands that agree with the arrays at the element's row: the gradient there. -/
theorem block_apply (i : grid0.Coords) (ids : S256.Idx → BitVec 32) (es : S256.Idx → EReal) (h : Ascends ids)
    (D : S256x1024.Idx → EReal) (DS : S1x1024.Idx → EReal) (X : S256x1280.Idx → EReal) (XS : S1x1280.Idx → EReal) (E : S256x1280.Idx → EReal)
    (D' : S256x50304.Idx → EReal) (DS' : S1x50304.Idx → EReal) (r : Fin 1024) (v : Fin 50304) (d : Fin 1280)
    (hv : v.val = 1024 * (i 0).val + r.val) (hD : ∀ n, D (ix2 n r) = D' (ix2 n v)) (hDS : DS (ix2 0 r) = DS' (ix2 0 v)) :
    block (F := Ideal) i ids es D DS X XS E (ix2 r d) = gradFlat D' DS' X XS E es ids v d := by
  unfold block
  refine (rows_block ids es _ h (i 0).val _ (ix2 r d)).trans ?_
  rw [head_apply, hDS]
  unfold gradFlat
  congr 1
  · congr 2
    exact Finset.sum_congr rfl fun n _ => by rw [hD]
  · refine Finset.sum_congr rfl fun n _ => ?_
    rw [hv]
    rfl

end Cert.KernelIdeal.Own

end
-- ==== Proof.KI.Cut.lean ====
/-
  What the body leaves at a point, over the extended reals: on the rows inside the array it is the gradient, whatever the staging
  buffers hold past the arrays' ends.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Data
public import proofs.«01_k».proof.Proof.KI.Tile
public import Idealize.ShloMosaic.Lib.Pipeline.FrameBody
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ)

/-- The length of a tile of the first operand, of its scales and of the result's block, cut at the array's end. -/
theorem extent_1 : ∀ t : Fin grid0.N, (clip0_1 (grid0.coords t) 1).extent 1024 = min 1024 (50304 - 1024 * t.val) := by decide +kernel
theorem extent_2 : ∀ t : Fin grid0.N, (clip0_2 (grid0.coords t) 1).extent 1024 = min 1024 (50304 - 1024 * t.val) := by decide +kernel
theorem extent_6 : ∀ t : Fin grid0.N, (clip0_6 (grid0.coords t) 0).extent 1024 = min 1024 (50304 - 1024 * t.val) := by decide +kernel

/-- Where the tiles start. -/
theorem start_1 : ∀ t : Fin grid0.N, cc0_transform_1 (grid0.coords t) 0 = 0 ∧ cc0_transform_1 (grid0.coords t) 1 = t.val := by decide +kernel
theorem start_2 : ∀ t : Fin grid0.N, cc0_transform_2 (grid0.coords t) 0 = 0 ∧ cc0_transform_2 (grid0.coords t) 1 = t.val := by decide +kernel
theorem start_6 : ∀ t : Fin grid0.N, cc0_transform_6 (grid0.coords t) 0 = t.val ∧ cc0_transform_6 (grid0.coords t) 1 = 0 := by decide +kernel

/-- A column of a tile that lies inside the array is the array's, whatever the rest of the buffer holds. -/
theorem tile_apply (c : Dev nD) (t : Fin (cfg0 (adm m)).N) (d : S256x1024.Idx → EReal) (n : Fin 256) (r : Fin 1024) (v : Fin 50304)
    (hv : v.val = 1024 * t.val + r.val) :
    ((cfg0 (adm m)).win (1 : Fin 7)).fill ((cfg0 (adm m)).grid.coords t) d
      ((((cfg0 (adm m)).win (1 : Fin 7)).blk t).view.read (Elt Ideal) (V m c main_v0)) (ix2 n r) = V m c main_v0 (ix2 n v) := by
  have hm : ((cfg0 (adm m)).win (1 : Fin 7)).moved ((cfg0 (adm m)).grid.coords t) (ix2 n r) = true :=
    (((cfg0 (adm m)).win (1 : Fin 7)).moved_iff _ _).mpr fun a => by
      have h1 := extent_1 t
      have hlt := v.isLt
      fin_cases a
      · exact n.isLt
      · show r.val < (clip0_1 (grid0.coords t) 1).extent 1024
        rw [h1]; omega
  unfold Window.fill
  rw [dif_pos hm]
  show V m c main_v0 _ = V m c main_v0 _
  refine congrArg _ (funext fun a => Fin.ext ?_)
  refine (Pipeline.Window.rect_emb_val ((cfg0 (adm m)).win (1 : Fin 7)) t _ a rfl).trans ?_
  have h0 := (start_1 t).1
  have h1 := (start_1 t).2
  fin_cases a
  · show cc0_transform_1 (grid0.coords t) 0 * 256 + n.val = n.val
    rw [h0]; omega
  · show cc0_transform_1 (grid0.coords t) 1 * 1024 + r.val = v.val
    rw [h1]; omega

/-- The same of the scales. -/
theorem scale_apply (c : Dev nD) (t : Fin (cfg0 (adm m)).N) (d : S1x1024.Idx → EReal) (r : Fin 1024) (v : Fin 50304)
    (hv : v.val = 1024 * t.val + r.val) :
    ((cfg0 (adm m)).win (2 : Fin 7)).fill ((cfg0 (adm m)).grid.coords t) d
      ((((cfg0 (adm m)).win (2 : Fin 7)).blk t).view.read (Elt Ideal) (V m c main_v1)) (ix2 0 r) = V m c main_v1 (ix2 0 v) := by
  have hm : ((cfg0 (adm m)).win (2 : Fin 7)).moved ((cfg0 (adm m)).grid.coords t) (ix2 0 r) = true :=
    (((cfg0 (adm m)).win (2 : Fin 7)).moved_iff _ _).mpr fun a => by
      have h1 := extent_2 t
      have hlt := v.isLt
      fin_cases a
      · exact Nat.zero_lt_one
      · show r.val < (clip0_2 (grid0.coords t) 1).extent 1024
        rw [h1]; omega
  unfold Window.fill
  rw [dif_pos hm]
  show V m c main_v1 _ = V m c main_v1 _
  refine congrArg _ (funext fun a => Fin.ext ?_)
  refine (Pipeline.Window.rect_emb_val ((cfg0 (adm m)).win (2 : Fin 7)) t _ a rfl).trans ?_
  have h0 := (start_2 t).1
  have h1 := (start_2 t).2
  fin_cases a
  · show cc0_transform_2 (grid0.coords t) 0 * 1 + 0 = 0
    rw [h0]
  · show cc0_transform_2 (grid0.coords t) 1 * 1024 + r.val = v.val
    rw [h1]; omega

/-- What the result holds at row `v`, column `d`, from the arrays as the grid finds them. -/
def target (c : Dev nD) (v : Fin 50304) (d : Fin 1280) : EReal :=
  gradFlat (V m c main_v0) (V m c main_v1) (XC m c) (XS m c) (EC m c) (ES m c) (ids m c) v d

/-- The block at a point, at a row inside the array: the gradient, whatever the buffers held past the arrays' ends. -/
theorem block_fill (hA : ∀ c, Ascends (ids m c)) (c : Dev nD) (t : Fin (cfg0 (adm m)).N) (d1 : S256x1024.Idx → EReal) (d2 : S1x1024.Idx → EReal)
    (r : Fin 1024) (v : Fin 50304) (d : Fin 1280) (hv : v.val = 1024 * t.val + r.val) :
    block (F := Ideal) (grid0.coords t) (ids m c) (ES m c)
      (((cfg0 (adm m)).win (1 : Fin 7)).fill ((cfg0 (adm m)).grid.coords t) d1
        ((((cfg0 (adm m)).win (1 : Fin 7)).blk t).view.read (Elt Ideal) (V m c main_v0)))
      (((cfg0 (adm m)).win (2 : Fin 7)).fill ((cfg0 (adm m)).grid.coords t) d2
        ((((cfg0 (adm m)).win (2 : Fin 7)).blk t).view.read (Elt Ideal) (V m c main_v1)))
      (XC m c) (XS m c) (EC m c) (ix2 r d) = target m c v d :=
  block_apply (grid0.coords t) (ids m c) (ES m c) (hA c) _ _ _ _ _ (V m c main_v0) (V m c main_v1) r v d
    (by rw [coord_eq t]; exact hv) (fun n => tile_apply m c t d1 n r v hv) (scale_apply m c t d2 r v hv)

/-- The row of the array that a row of the result's block is, for a row inside the array. -/
theorem row_lt (t : Fin (cfg0 (adm m)).N) (y : (((cfg0 (adm m)).win (6 : Fin 7)).xblock ((cfg0 (adm m)).grid.coords t)).Idx) :
    1024 * t.val + (y (0 : Fin 2)).val < 50304 := by
  have h := extent_6 t
  have hy : (y (0 : Fin 2)).val < (clip0_6 (grid0.coords t) 0).extent 1024 := (y (0 : Fin 2)).isLt
  rw [h] at hy
  omega

/-- On the rows inside the array the block left at a point is the gradient. -/
theorem cut_block (hA : ∀ c, Ascends (ids m c)) (c : Dev nD) (t : Fin (cfg0 (adm m)).N) (d1 : S256x1024.Idx → EReal) (d2 : S1x1024.Idx → EReal)
    (y : (((cfg0 (adm m)).win (6 : Fin 7)).xblock ((cfg0 (adm m)).grid.coords t)).Idx) :
    block (F := Ideal) (grid0.coords t) (ids m c) (ES m c)
      (((cfg0 (adm m)).win (1 : Fin 7)).fill ((cfg0 (adm m)).grid.coords t) d1
        ((((cfg0 (adm m)).win (1 : Fin 7)).blk t).view.read (Elt Ideal) (V m c main_v0)))
      (((cfg0 (adm m)).win (2 : Fin 7)).fill ((cfg0 (adm m)).grid.coords t) d2
        ((((cfg0 (adm m)).win (2 : Fin 7)).blk t).view.read (Elt Ideal) (V m c main_v1)))
      (XC m c) (XS m c) (EC m c) (((cfg0 (adm m)).win (6 : Fin 7)).xinj ((cfg0 (adm m)).grid.coords t) y)
      = target m c ⟨1024 * t.val + (y (0 : Fin 2)).val, row_lt m t y⟩ ⟨(y (1 : Fin 2)).val, (y (1 : Fin 2)).isLt⟩ := by
  have hlt : (y (0 : Fin 2)).val < 1024 := by
    have h := extent_6 t
    have hy : (y (0 : Fin 2)).val < (clip0_6 (grid0.coords t) 0).extent 1024 := (y (0 : Fin 2)).isLt
    rw [h] at hy
    omega
  have hx : ((cfg0 (adm m)).win (6 : Fin 7)).xinj ((cfg0 (adm m)).grid.coords t) y
      = (ix2 (⟨(y (0 : Fin 2)).val, hlt⟩ : Fin 1024) (⟨(y (1 : Fin 2)).val, (y (1 : Fin 2)).isLt⟩ : Fin 1280) : S1024x1280.Idx) :=
    funext fun a => by fin_cases a <;> rfl
  refine (congrArg _ hx).trans ?_
  exact block_fill m hA c t d1 d2 _ _ _ rfl

end Cert.KernelIdeal.Own

end
-- ==== Proof.KI.Launch.lean ====
/-
  The launch over the extended reals: the body at every point of the grid, and from it the whole program, the result's blocks
  followed on the rows inside the array.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Cut
public import Idealize.ShloMosaic.Lib.Pipeline.FrameBody
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The body table's row at a point is the body on the point's staging buffers. -/
theorem row_eq (t : Fin (cfg0 (adm m)).N) :
    defs₀ (F := Ideal) .tc (cfg0 (adm m)).body ((cfg0 (adm m)).bodyArgs t ((cfg0 (adm m)).slots t))
      = cc0_tied_embedding_weight_grad (grid0.coords t) (Memref.whole main_arg6) (Memref.isWhole_whole _)
          (spec0_0.stage ((cfg0 (adm m)).slots t 0)) (hstage0_0 (((cfg0 (adm m)).slots t 0).cast nbuf0_0))
          (spec0_1.stage ((cfg0 (adm m)).slots t 1)) (hstage0_1 (((cfg0 (adm m)).slots t 1).cast nbuf0_1))
          (spec0_2.stage ((cfg0 (adm m)).slots t 2)) (hstage0_2 (((cfg0 (adm m)).slots t 2).cast nbuf0_2))
          (spec0_3.stage ((cfg0 (adm m)).slots t 3)) (hstage0_3 (((cfg0 (adm m)).slots t 3).cast nbuf0_3))
          (spec0_4.stage ((cfg0 (adm m)).slots t 4)) (hstage0_4 (((cfg0 (adm m)).slots t 4).cast nbuf0_4))
          (spec0_5.stage ((cfg0 (adm m)).slots t 5)) (hstage0_5 (((cfg0 (adm m)).slots t 5).cast nbuf0_5))
          (spec0_6.stage ((cfg0 (adm m)).slots t 6)) (hstage0_6 (((cfg0 (adm m)).slots t 6).cast nbuf0_6))
          (Memref.whole cc0_scratch0) (Memref.isWhole_whole _) (Memref.whole cc0_scratch1) (Memref.isWhole_whole _) := by
  unfold defs₀; rw [Defs.onTc_tc]

/-- On the rows inside the array, what the body leaves of the result does not depend on what the staging buffers held past the
    arrays' ends. -/
theorem cut_left (hA : ∀ c, Ascends (ids m c)) (c : Dev nD) (t : Fin (cfg0 (adm m)).N) (d1 d2) :
    ((cfg0 (adm m)).win (6 : Fin 7)).cut ((cfg0 (adm m)).grid.coords t)
        (block (F := Ideal) (grid0.coords t) (ids m c) (ES m c) ((dats m 0 c).fetched (1 : Fin 7) t d1)
          ((dats m 0 c).fetched (2 : Fin 7) t d2) (XC m c) (XS m c) (EC m c))
      = ((cfg0 (adm m)).win (6 : Fin 7)).cut ((cfg0 (adm m)).grid.coords t) ((dats m 0 c).after (6 : Fin 7) t) :=
  funext fun y => (cut_block m hA c t d1 d2 y).trans (cut_block m hA c t _ _ y).symm

/-- What the body is handed at a point. -/
def bodyPre (c : Dev nD) (t : Fin (cfg0 (adm m)).N) : sProp 𝕄 :=
  iprop(carried c (ids m c) (EC m c) t.val ∗ (dats m 0 c).owesAt () t.castSucc
      ∗ (∃ d, owns (c : Thread nD τ) (spec0_0.stage ((cfg0 (adm m)).slots t 0)) fullShare ((dats m 0 c).before (0 : Fin 7) t d))
      ∗ (∃ d, owns (c : Thread nD τ) (spec0_1.stage ((cfg0 (adm m)).slots t 1)) fullShare ((dats m 0 c).before (1 : Fin 7) t d))
      ∗ (∃ d, owns (c : Thread nD τ) (spec0_2.stage ((cfg0 (adm m)).slots t 2)) fullShare ((dats m 0 c).before (2 : Fin 7) t d))
      ∗ (∃ d, owns (c : Thread nD τ) (spec0_3.stage ((cfg0 (adm m)).slots t 3)) fullShare ((dats m 0 c).before (3 : Fin 7) t d))
      ∗ (∃ d, owns (c : Thread nD τ) (spec0_4.stage ((cfg0 (adm m)).slots t 4)) fullShare ((dats m 0 c).before (4 : Fin 7) t d))
      ∗ (∃ d, owns (c : Thread nD τ) (spec0_5.stage ((cfg0 (adm m)).slots t 5)) fullShare ((dats m 0 c).before (5 : Fin 7) t d))
      ∗ (∃ d, owns (c : Thread nD τ) (spec0_6.stage ((cfg0 (adm m)).slots t 6)) fullShare ((dats m 0 c).before (6 : Fin 7) t d)))

/-- What it leaves. -/
def bodyPost (c : Dev nD) (t : Fin (cfg0 (adm m)).N) : sProp 𝕄 :=
  iprop(carried c (ids m c) (EC m c) (t.val + 1) ∗ (dats m 0 c).owesAt () t.castSucc
      ∗ owns (c : Thread nD τ) (spec0_0.stage ((cfg0 (adm m)).slots t 0)) fullShare (ES m c)
      ∗ (∃ d, owns (c : Thread nD τ) (spec0_1.stage ((cfg0 (adm m)).slots t 1)) fullShare
          (((cfg0 (adm m)).win (1 : Fin 7)).fill ((cfg0 (adm m)).grid.coords t) d (((cfg0 (adm m)).win (1 : Fin 7)).cut ((cfg0 (adm m)).grid.coords t) ((dats m 0 c).after (1 : Fin 7) t))))
      ∗ (∃ d, owns (c : Thread nD τ) (spec0_2.stage ((cfg0 (adm m)).slots t 2)) fullShare
          (((cfg0 (adm m)).win (2 : Fin 7)).fill ((cfg0 (adm m)).grid.coords t) d (((cfg0 (adm m)).win (2 : Fin 7)).cut ((cfg0 (adm m)).grid.coords t) ((dats m 0 c).after (2 : Fin 7) t))))
      ∗ owns (c : Thread nD τ) (spec0_3.stage ((cfg0 (adm m)).slots t 3)) fullShare (XC m c)
      ∗ owns (c : Thread nD τ) (spec0_4.stage ((cfg0 (adm m)).slots t 4)) fullShare (XS m c)
      ∗ owns (c : Thread nD τ) (spec0_5.stage ((cfg0 (adm m)).slots t 5)) fullShare (EC m c)
      ∗ (∃ d, owns (c : Thread nD τ) (spec0_6.stage ((cfg0 (adm m)).slots t 6)) fullShare
          (((cfg0 (adm m)).win (6 : Fin 7)).fill ((cfg0 (adm m)).grid.coords t) d (((cfg0 (adm m)).win (6 : Fin 7)).cut ((cfg0 (adm m)).grid.coords t) ((dats m 0 c).after (6 : Fin 7) t)))))

/-- The body at a point. -/
theorem body_point (hA : ∀ c, Ascends (ids m c)) (c : Dev nD) (t : Fin (cfg0 (adm m)).N) :
    bodyPre m c t ⊢ wp frame (wpE (defs₀ (F := Ideal)) 𝒱₀ c none) Set.univ
      (defs₀ (F := Ideal) .tc (cfg0 (adm m)).body ((cfg0 (adm m)).bodyArgs t ((cfg0 (adm m)).slots t))) fun _ => bodyPost m c t := by
  have hc : (grid0.coords t 0).val = t.val := coord_eq t
  rw [row_eq]; unfold bodyPre bodyPost
  rw [keep_1, keep_2]
  iintro ⟨HC, HO, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (point_le c (grid0.coords t) _ _ _ _ _ _ _ _ _ _ _ _ _ _ (ids m c) (hA c) (ES m c) ((dats m 0 c).fetched (1 : Fin 7) t d1)
    ((dats m 0 c).fetched (2 : Fin 7) t d2) (XC m c) (XS m c) (EC m c) ((dats m 0 c).before (6 : Fin 7) t d6))
  rw [hc]
  isplitl [HC]; · iexact HC
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HC, H0, H1, H2, H3, H4, H5, H6⟩
  isplitl [HC]; · iexact HC
  isplitl [HO]; · iexact HO
  isplitl [H0]; · iexact H0
  isplitl [H1]; · iexists d1; iexact H1
  isplitl [H2]; · iexists d2; iexact H2
  isplitl [H3]; · iexact H3
  isplitl [H4]; · iexact H4
  isplitl [H5]; · iexact H5
  iexists (block (F := Ideal) (grid0.coords t) (ids m c) (ES m c) ((dats m 0 c).fetched (1 : Fin 7) t d1)
    ((dats m 0 c).fetched (2 : Fin 7) t d2) (XC m c) (XS m c) (EC m c))
  rw [Window.fill_congr_cut _ _ (cut_left m hA c t d1 d2)]
  iexact H6

/-- The body at every point. -/
theorem body_obligation (hA : ∀ c, Ascends (ids m c)) (c : Dev nD) :
    BodyObligationLoose (dats m 0 c) (defs₀ (F := Ideal)) 𝒱₀ () Set.univ := fun t => by
  rw [bigSep_W0, bigSep_W0]
  exact triple_restated (body_point m hA c t) rfl .rfl fun _ => .rfl

/-- The program is its host part followed by the launch, with the memory that the launch finds. -/
theorem hmain : Pipeline.HMainP (Ix := Unit) (Name := ℕ) (U := UR sig nD τ) (Lvl := ℕ) pcfgs 0 defs₀ 𝒱₀ m (main (F := Ideal)) (V m) :=
  Pipeline.hmainP_prefix pcfgs 0 defs₀ 𝒱₀ m main hostOps0 hostOps0_sub (by simp only [List.Forall]; exact ⟨rfl, rfl, rfl, rfl⟩) main_chain

/-- The table of ids as the one buffer it is. -/
theorem table_eq (c : Dev nD) : (Pipeline.ΦT pre0 (adm m).1 c : sProp 𝕄) = iprop(((c : Thread nD τ).loc main_arg6) ↦{fullShare.right} ids m c) := by
  obtain rfl : c = 0 := Subsingleton.elim _ _
  unfold Pipeline.ΦT Pipeline.prefHeld
  rw [BI.bigSep_eq_bigSepL_of_eq [(0 : Fin 1)] (by decide) (by decide)]
  rfl

/-- Before the first point nothing is known of the scratch or the pointer. -/
theorem hin (c : Dev nD) : iprop(Pipeline.ΦA spec0 c ∗ Pipeline.ΦT pre0 (adm m).1 c) ⊢ (dats m 0 c).Φ 0 := by
  rw [table_eq]; unfold Pipeline.ΦA; rw [scopedRest0_eq]
  change _ ⊢ carried c (ids m c) (EC m c) 0
  unfold carried
  iintro ⟨⟨⟨⟨%f9, H9⟩, ⟨%f10, H10⟩⟩, Hg⟩, H1⟩
  iexists f9; iexists f10
  isplitr
  · ipureintro; exact fun h => absurd rfl h
  isplitl [H9]; · iexact H9
  isplitl [H10]; · iexact H10
  isplitl [Hg]; · iexact Hg
  iexact H1

/-- After the last point the carried state is let go. -/
theorem hout (c : Dev nD) : (dats m 0 c).Φ (Fin.last (cfg0 (adm m)).N) ⊢ Pipeline.ΦA spec0 c := by
  unfold Pipeline.ΦA; rw [scopedRest0_eq]
  change carried c (ids m c) (EC m c) _ ⊢ _
  unfold carried
  iintro ⟨%f9, %f10, %h, H9, H10, Hg, H1⟩
  isplitr [Hg]
  · isplitl [H9]
    · iexists f9; iexact H9
    · iexists f10; iexact H10
  iexact Hg

set_option backward.isDefEq.respectTransparency.types false in
/-- If the ids ascend the program terminates without a fault, with the result's array as the blocks left make it and every
    other buffer as the grid found it. -/
theorem run_main (hA : ∀ c, Ascends (ids m c)) :
    θ_run defs (onTc (τ := τ) (main (F := Ideal))) (s₀ m ρ)
      (fun r => Pipeline.FramePost (Pipeline.pin pcfgs (fun _ => adm m)) (dats m) (0 : Fin 1) (V m) r ∧ r.2.sem = fun _ => 0) :=
  Pipeline.θ_run_frameP_track (Q' := _) pcfgs (fun _ => adm m) (dats m) (0 : Fin 1) launch0 defs₀ 𝒱₀ m ρ main
    (hbody := body_obligation m hA) (hshare := fun c => (dats m 0 c).share_full fun _ => rfl)
    (howed := fun _ _ => rfl) (V := V m) (hmain := hmain m) (hA := A_eq m) (hpf := V_pre m)
    (hin := hin m) (hout := hout m)

end Cert.KernelIdeal.Own

end
-- ==== Proof.KI.Frame.lean ====
/-
  The frame and the value: under the precondition the program terminates without a fault, leaves its arguments as they were and
  leaves the gradient in its result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.WritesUnit
public import proofs.«01_k».proof.Proof.KI.Launch
public import Idealize.ShloMosaic.Lib.Pipeline.FrameBody
public import Idealize.ShloMosaic.Lib.Pipeline.ValueKit
public import proofs.«01_k».proof.Proof.Ascend

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Rows
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The grid finds the arguments as the program was given them. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- The first operand as the grid finds it: the two leading axes merged into one. -/
theorem V_main_v0 (c : Dev nD) (b : Fin 2) (s : Fin 128) (v : Fin 50304) (k : Fin 256) (hk : k.val = b.val * 128 + s.val) :
    V m c main_v0 (ix2 k v) = m ((c : Thread nD τ).loc main_arg0) (ix3 b s v) := by
  have e : V m c main_v0 = shapeCast (s := S2x128x50304) S256x50304 (m ((c : Thread nD τ).loc main_arg0)) shapeCasts_S2x128x50304_S256x50304 := rfl
  rw [e]
  exact shapeCast_apply (s := S2x128x50304) _ _ _ _ (by
    refine (Shape.rowMajor_val_three _).trans (Eq.trans ?_ (Shape.rowMajor_val_two _).symm)
    show (b.val * 128 + s.val) * 50304 + v.val = k.val * 50304 + v.val; rw [hk])
/-- The second operand. -/
theorem V_main_v2 (c : Dev nD) (b : Fin 2) (s : Fin 128) (d : Fin 1280) (k : Fin 256) (hk : k.val = b.val * 128 + s.val) :
    V m c main_v2 (ix2 k d) = m ((c : Thread nD τ).loc main_arg2) (ix3 b s d) := by
  have e : V m c main_v2 = shapeCast (s := S2x128x1280) S256x1280 (m ((c : Thread nD τ).loc main_arg2)) shapeCasts_S2x128x1280_S256x1280 := rfl
  rw [e]
  exact shapeCast_apply (s := S2x128x1280) _ _ _ _ (by
    refine (Shape.rowMajor_val_three _).trans (Eq.trans ?_ (Shape.rowMajor_val_two _).symm)
    show (b.val * 128 + s.val) * 1280 + d.val = k.val * 1280 + d.val; rw [hk])
/-- The scales, with a unit axis in front. -/
theorem V_main_v1 (c : Dev nD) (v : Fin 50304) : V m c main_v1 (ix2 0 v) = m ((c : Thread nD τ).loc main_arg1) (ix1 v) := by
  have e : V m c main_v1 = shapeCast (s := S50304) S1x50304 (m ((c : Thread nD τ).loc main_arg1)) shapeCasts_S50304_S1x50304 := rfl
  rw [e]
  exact shapeCast_apply (s := S50304) _ _ _ _ (by
    refine (Shape.rowMajor_val_one _).trans (Eq.trans ?_ (Shape.rowMajor_val_two _).symm)
    show v.val = 0 * 50304 + v.val; omega)
theorem V_main_v3 (c : Dev nD) (d : Fin 1280) : V m c main_v3 (ix2 0 d) = m ((c : Thread nD τ).loc main_arg3) (ix1 d) := by
  have e : V m c main_v3 = shapeCast (s := S1280) S1x1280 (m ((c : Thread nD τ).loc main_arg3)) shapeCasts_S1280_S1x1280 := rfl
  rw [e]
  exact shapeCast_apply (s := S1280) _ _ _ _ (by
    refine (Shape.rowMajor_val_one _).trans (Eq.trans ?_ (Shape.rowMajor_val_two _).symm)
    show d.val = 0 * 1280 + d.val; omega)

/-- The gradient of the program's arguments. -/
def result (c : Dev nD) : S50304x1280.Idx → EReal := fun y =>
  grad (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) (y 1)

/-- What the rows of the result hold is the gradient of the arguments. -/
theorem target_eq (c : Dev nD) (v : Fin 50304) (d : Fin 1280) : target m c v d = result m c (ix2 v d) :=
  gradFlat_eq (V_main_v0 m c) (V_main_v1 m c) (V_main_v2 m c) (V_main_v3 m c) v d

/-- Every point writes its block back. -/
theorem flush_6 : ∀ t : Fin grid0.N, Window.flushOf grid0 true cc0_transform_6 t = true := by decide +kernel

/-- The blocks written back cover the result's array. -/
theorem covers_6 : ((cfg0 (adm m)).win (6 : Fin 7)).Covers := by
  refine ⟨fun a => by fin_cases a <;> exact Nat.succ_pos _, fun β => ?_⟩
  have hb0 : (β (0 : Fin 2)).val < 50 :=
    Nat.lt_of_lt_of_eq (β (0 : Fin 2)).isLt (show (50304 + 1024 - 1) / 1024 = 50 by decide)
  have hb1 : (β (1 : Fin 2)).val < 1 :=
    Nat.lt_of_lt_of_eq (β (1 : Fin 2)).isLt (show (1280 + 1280 - 1) / 1280 = 1 by decide)
  let t : Fin grid0.N := ⟨(β (0 : Fin 2)).val, hb0⟩
  have h0 := (start_6 t).1
  have h1 := (start_6 t).2
  refine ⟨t, flush_6 t, fun a => ?_⟩
  fin_cases a
  · refine ⟨h0, ?_⟩
    show (clip0_6 (grid0.coords t) 0).extent 1024 = 1024 ∨ 50304 ≤ cc0_transform_6 (grid0.coords t) 0 * 1024 + (clip0_6 (grid0.coords t) 0).extent 1024
    rw [extent_6 t, h0]; omega
  · exact ⟨h1.trans (by show 0 = (β (1 : Fin 2)).val; omega), Or.inl rfl⟩

/-- The result's array at the end of the grid. -/
theorem final (hA : ∀ c, Ascends (ids m c)) (c : Dev nD) : (dats m 0 c).arrAt (6 : Fin 7) (cfg0 (adm m)).N = result m c := by
  refine (dats m 0 c).arrAt_eq_of_covers (6 : Fin 7) _ (covers_6 m) fun t hf y => ?_
  refine (cut_block m hA c t _ _ y).trans ((target_eq m c _ _).trans (congrArg (result m c) (funext fun a => Fin.ext ?_)))
  refine Eq.trans ?_ (Pipeline.Window.rect_emb_val ((cfg0 (adm m)).win (6 : Fin 7)) t y a rfl).symm
  have h0 := (start_6 t).1
  have h1 := (start_6 t).2
  fin_cases a
  · show 1024 * t.val + (y (0 : Fin 2)).val = cc0_transform_6 (grid0.coords t) 0 * 1024 + (y (0 : Fin 2)).val
    rw [h0]; omega
  · show (y (1 : Fin 2)).val = cc0_transform_6 (grid0.coords t) 1 * 1280 + (y (1 : Fin 2)).val
    rw [h1]; omega

/-- The frame, from ids that ascend. -/
theorem frame (hA : ∀ c : Dev nD, Ascends (m ((c : Thread nD τ).loc main_arg6))) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(((h.1 c).2 main_arg0 (Pipeline.mem_restRefs_of main_arg0 (by decide) (by exact (by decide : ∀ w : Fin 7, (spec0 w).arr.view.ref ≠ main_arg0)))).trans (V_main_arg0 m c)),
      (((h.1 c).2 main_arg1 (Pipeline.mem_restRefs_of main_arg1 (by decide) (by exact (by decide : ∀ w : Fin 7, (spec0 w).arr.view.ref ≠ main_arg1)))).trans (V_main_arg1 m c)),
      (((h.1 c).2 main_arg2 (Pipeline.mem_restRefs_of main_arg2 (by decide) (by exact (by decide : ∀ w : Fin 7, (spec0 w).arr.view.ref ≠ main_arg2)))).trans (V_main_arg2 m c)),
      (((h.1 c).2 main_arg3 (Pipeline.mem_restRefs_of main_arg3 (by decide) (by exact (by decide : ∀ w : Fin 7, (spec0 w).arr.view.ref ≠ main_arg3)))).trans (V_main_arg3 m c)),
      ((h.1 c).1 (5 : Fin 7)).trans (((dats m 0 c).arrAt_in (5 : Fin 7) rfl _).trans (V_main_arg4 m c)),
      ((h.1 c).1 (0 : Fin 7)).trans (((dats m 0 c).arrAt_in (0 : Fin 7) rfl _).trans (V_main_arg5 m c)),
      (((h.1 c).2 main_arg6 (Pipeline.mem_restRefs_of main_arg6 (by decide) (by exact (by decide : ∀ w : Fin 7, (spec0 w).arr.view.ref ≠ main_arg6)))).trans (V_main_arg6 m c))⟩, h.2⟩)
    (run_main m ρ hA)

/-- The value, from ids that ascend: the result is the gradient of the arguments, which are left as they were. -/
theorem value (hA : ∀ c : Dev nD, Ascends (m ((c : Thread nD τ).loc main_arg6))) :
    θ_run defs (onTc (τ := τ) (main (F := Ideal))) ⟨m, fun _ => 0, ρ⟩ (fun r => (∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun r h c =>
    ⟨((h.1 c).1 (6 : Fin 7)).trans (final m hA c),
      (((h.1 c).2 main_arg0 (Pipeline.mem_restRefs_of main_arg0 (by decide) (by exact (by decide : ∀ w : Fin 7, (spec0 w).arr.view.ref ≠ main_arg0)))).trans (V_main_arg0 m c)),
      (((h.1 c).2 main_arg1 (Pipeline.mem_restRefs_of main_arg1 (by decide) (by exact (by decide : ∀ w : Fin 7, (spec0 w).arr.view.ref ≠ main_arg1)))).trans (V_main_arg1 m c)),
      (((h.1 c).2 main_arg2 (Pipeline.mem_restRefs_of main_arg2 (by decide) (by exact (by decide : ∀ w : Fin 7, (spec0 w).arr.view.ref ≠ main_arg2)))).trans (V_main_arg2 m c)),
      (((h.1 c).2 main_arg3 (Pipeline.mem_restRefs_of main_arg3 (by decide) (by exact (by decide : ∀ w : Fin 7, (spec0 w).arr.view.ref ≠ main_arg3)))).trans (V_main_arg3 m c)),
      ((h.1 c).1 (5 : Fin 7)).trans (((dats m 0 c).arrAt_in (5 : Fin 7) rfl _).trans (V_main_arg4 m c)),
      ((h.1 c).1 (0 : Fin 7)).trans (((dats m 0 c).arrAt_in (0 : Fin 7) rfl _).trans (V_main_arg5 m c)),
      (((h.1 c).2 main_arg6 (Pipeline.mem_restRefs_of main_arg6 (by decide) (by exact (by decide : ∀ w : Fin 7, (spec0 w).arr.view.ref ≠ main_arg6)))).trans (V_main_arg6 m c))⟩)
    (run_main m ρ hA)

end Cert.KernelIdeal.Own

end
-- ==== Proof.RI.Scatter.lean ====
/-
  The reference's scatter, over the extended reals: each row of the result gets the sum of the updates whose id is the row.
-/
module

public import proofs.«01_k».proof.Proof.Gen.ReferenceIdeal
public import proofs.«01_k».proof.Proof.Rows
public import Idealize.ShloMosaic.Lib.Routing.OpsPair
public import Idealize.ShloMosaic.Lib.Pointwise.Index
public import Idealize.ShloMosaic.PureOps.Ideal.Laws

@[expose] public section

set_option maxRecDepth 16384

noncomputable section

namespace Cert.ReferenceIdeal.Own

open Cert.ReferenceIdeal Cert.ReferenceIdeal.Gen
open Idealize.ShloMosaic
open Cert.Rows

/-- The scatter's dimension numbers. -/
abbrev dims : ScatterDims S50304x1280 S256x1 S256x1280 := scatter_S50304x1280_S256x1_S256x1280_1_0_0_1

/-- Update `n`, `d'` lands at row `v`, column `d` exactly when its id is `v` and `d'` is `d`. -/
theorem lands (idx : IVec S256x1 32) (n : Fin 256) (d' : Fin 1280) (v : Fin 50304) (d : Fin 1280) :
    dims.resultIdx? (ix2 n d') idx = some (ix2 v d) ↔ (idx (ix2 n (0 : Fin 1))).toInt = (v.val : Int) ∧ d' = d := by
  have hwin0 : dims.window (ix2 n d') (0 : Fin 2) = 0 := rfl
  have hwin1 : dims.window (ix2 n d') (1 : Fin 2) = d'.val := rfl
  have hstart1 : dims.start (ix2 n d') idx (1 : Fin 2) = 0 := rfl
  have hstart0 : dims.start (ix2 n d') idx (0 : Fin 2) = (idx (ix2 n (0 : Fin 1))).toInt := by
    show (idx _).toInt = _
    congr 2
    funext b
    fin_cases b <;> rfl
  refine (Routing.resultIdx?_ix2 dims (ix2 n d') idx v d).trans ?_
  rw [hstart0, hwin0, hstart1, hwin1, Fin.ext_iff]
  omega

/-- The scatter at row `v`, column `d`. -/
theorem scatter_apply (x : S50304x1280.Idx → EReal) (idx : IVec S256x1 32) (u : S256x1280.Idx → EReal) (v : Fin 50304) (d : Fin 1280) :
    Ideal.hostScatterAdd dims x idx u (ix2 v d)
      = x (ix2 v d) + ∑ n : Fin 256, if (idx (ix2 n (0 : Fin 1))).toInt = (v.val : Int) then u (ix2 n d) else 0 := by
  unfold Ideal.hostScatterAdd
  congr 1
  rw [Finset.sum_filter]
  refine (sum_idx2 (n0 := 256) (n1 := 1280) _).trans ?_
  refine Finset.sum_congr rfl fun n _ => ?_
  simp only [lands]
  by_cases h : (idx (ix2 n (0 : Fin 1))).toInt = (v.val : Int)
  · simp [h]
  · simp [h]

end Cert.ReferenceIdeal.Own

end
-- ==== Proof.RI.Value.lean ====
/-
  The value of the reference: its result is the gradient of its arguments.
-/
module

public import proofs.«01_k».proof.Proof.Gen.ReferenceIdeal.Frame
public import proofs.«01_k».proof.Proof.RI.Scatter
public import proofs.«01_k».proof.Proof.Grad
public import Idealize.ShloMosaic.Lib.Pointwise
public import Idealize.ShloMosaic.Lib.Claim
public import Idealize.ShloMosaic.Lib.Pipeline.ValueKit

@[expose] public section

set_option maxRecDepth 16384

noncomputable section

namespace Cert.ReferenceIdeal.Own

open Cert.ReferenceIdeal Cert.ReferenceIdeal.Gen
open Idealize.ShloMosaic
open Idealize.ShloMosaic.TcCoe Idealize.ShloMosaic.Tactic
open Idealize.SL Idealize.SL.Sem
open Cert.Rows
open Idealize.ShloMosaic.Pipeline (Dat Cfg Window)

variable (m : (ℓ : Loc nD τ sig) → Buf (Elt Ideal) ℓ) (ρ : Dev nD → PrngReg)

/-- The gradient of the arguments. -/
def result (c : Dev nD) : S50304x1280.Idx → EReal := fun y =>
  grad (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) (y 1)

/-- Each operand widened is the operand: over the extended reals the cast changes nothing. -/
theorem wide_3 (c : Dev nD) : (dats m 0 c).arrAt 3 cfg0.N = m ((c : Thread nD τ).loc main_arg0) := by
  refine (dats m 0 c).arrAt_eq_of_covers 3 _ (by decide +kernel) fun t hf y => ?_
  blk_simp
  rw [after0_3]
  frame_out
  exact congrArg (m ((c : Thread nD τ).loc main_arg0)) (funext fun a => Fin.ext rfl)
theorem wide_4 (c : Dev nD) : (dats m 0 c).arrAt 4 cfg0.N = m ((c : Thread nD τ).loc main_arg2) := by
  refine (dats m 0 c).arrAt_eq_of_covers 4 _ (by decide +kernel) fun t hf y => ?_
  blk_simp
  rw [after0_4]
  frame_out
  exact congrArg (m ((c : Thread nD τ).loc main_arg2)) (funext fun a => Fin.ext rfl)
theorem wide_5 (c : Dev nD) : (dats m 0 c).arrAt 5 cfg0.N = m ((c : Thread nD τ).loc main_arg4) := by
  refine (dats m 0 c).arrAt_eq_of_covers 5 _ (by decide +kernel) fun t hf y => ?_
  blk_simp
  rw [after0_5]
  frame_out
  exact congrArg (m ((c : Thread nD τ).loc main_arg4)) (funext fun a => Fin.ext rfl)

/-- The host operations after the casts, as one function of their operands. -/
def host (D : FVec Ideal S2x128x50304 .f32) (ds : FVec Ideal S50304 .f32) (X : FVec Ideal S2x128x1280 .f32) (xs : FVec Ideal S1280 .f32)
    (E : FVec Ideal S256x1280 .f32) (es : FVec Ideal S256 .f32) (ids : IVec S256 32) : FVec Ideal S50304x1280 .f32 :=
  addf
    (mulf
      (mulf (Host.dotGeneral dot_S2x128x50304_S2x128x1280_S50304x1280_01_01_2_2_n_n none D X)
        (broadcastInDim S50304x1280 ![0, 1] bcast_S50304x1_S50304x1280_0_1 (broadcastInDim S50304x1 ![0] bcast_S50304_S50304x1_0 ds)))
      (broadcastInDim S50304x1280 ![0, 1] bcast_S1x1280_S50304x1280_0_1 (broadcastInDim S1x1280 ![1] bcast_S1280_S1x1280_1 xs)))
    (Host.scatterAdd scatter_S50304x1280_S256x1_S256x1280_1_0_0_1
      (broadcastInDim S50304x1280 ![] bcast_S_S50304x1280 (constant S_ .f32 0x00000000#32))
      (broadcastInDim S256x1 ![0] bcast_S256_S256x1_0 ids)
      (mulf E (broadcastInDim S256x1280 ![0, 1] bcast_S256x1_S256x1280_0_1 (broadcastInDim S256x1 ![0] bcast_S256_S256x1_0 es))))

/-- What they leave in the result. -/
theorem after_host (W : Valuation τ sig (Elt Ideal)) :
    StableHlo.after hostOps1 W (Proc.devRef .tc main_v14)
      = host (W (Proc.devRef .tc main_v0_0)) (W (Proc.devRef .tc main_arg1)) (W (Proc.devRef .tc main_v0_1)) (W (Proc.devRef .tc main_arg3))
          (W (Proc.devRef .tc main_v0_2)) (W (Proc.devRef .tc main_arg5)) (W (Proc.devRef .tc main_arg6)) := by
  unfold host
  after_results

/-- The reading at row `v`, column `d` when no id is negative. -/
theorem host_apply (D : FVec Ideal S2x128x50304 .f32) (ds : FVec Ideal S50304 .f32) (X : FVec Ideal S2x128x1280 .f32) (xs : FVec Ideal S1280 .f32)
    (E : FVec Ideal S256x1280 .f32) (es : FVec Ideal S256 .f32) (ids : IVec S256 32) (hA : Ascends ids) (v : Fin 50304) (d : Fin 1280) :
    host D ds X xs E es ids (ix2 v d) = grad D ds X xs E es ids v d := by
  have hs : ∀ (x : FVec Ideal S50304x1280 .f32) (idx : IVec S256x1 32) (u : FVec Ideal S256x1280 .f32), (Host.scatterAdd scatter_S50304x1280_S256x1_S256x1280_1_0_0_1 x idx u : FVec Ideal S50304x1280 .f32)
      = Ideal.hostScatterAdd dims x idx u := fun _ _ _ => rfl
  unfold host grad
  rw [hs]
  simp only [addf, mulf]
  rw [scatter_apply]
  pointwise
  congr 1
  refine Finset.sum_congr rfl fun n _ => if_congr ?_ rfl rfl
  have h31 := hA.1 n
  have e : (ids (ix1 n)).toInt = ((ids (ix1 n)).toNat : Int) := by rw [BitVec.toInt_eq_toNat_cond]; split <;> omega
  rw [e]
  exact Int.ofNat_inj

/-- The result at the end. -/
theorem result_read (hA : ∀ c : Dev nD, Ascends (m ((c : Thread nD τ).loc main_arg6))) (c : Dev nD) :
    Pipeline.afterTail₀ cfgs (dats m) 0 (V0 m) [hostOps1] c main_v14 = result m c := by
  unfold Pipeline.afterTail₀
  refine (after_host _).trans ?_
  have h3 := Pipeline.withArrays_arr spec0 (by decide) c (V0 m c) (fun w => (dats m 0 c).arrAt w cfg0.N) 3
  have h4 := Pipeline.withArrays_arr spec0 (by decide) c (V0 m c) (fun w => (dats m 0 c).arrAt w cfg0.N) 4
  have h5 := Pipeline.withArrays_arr spec0 (by decide) c (V0 m c) (fun w => (dats m 0 c).arrAt w cfg0.N) 5
  have n1 := Pipeline.withArrays_of_ne spec0 c (V0 m c) (fun w => (dats m 0 c).arrAt w cfg0.N) main_arg1 (by decide)
  have n3 := Pipeline.withArrays_of_ne spec0 c (V0 m c) (fun w => (dats m 0 c).arrAt w cfg0.N) main_arg3 (by decide)
  have n5 := Pipeline.withArrays_of_ne spec0 c (V0 m c) (fun w => (dats m 0 c).arrAt w cfg0.N) main_arg5 (by decide)
  have n6 := Pipeline.withArrays_of_ne spec0 c (V0 m c) (fun w => (dats m 0 c).arrAt w cfg0.N) main_arg6 (by decide)
  funext y
  refine (congrFun (congr (congr (congr (congr (congr (congr (congrArg host (h3.trans (wide_3 m c))) n1) (h4.trans (wide_4 m c))) n3)
    (h5.trans (wide_5 m c))) n5) n6) y).trans ?_
  refine (congrArg _ (eq_ix2 (n0 := 50304) (n1 := 1280) y)).trans ?_
  exact host_apply _ _ _ _ _ _ _ (hA c) (y 0) (y 1)

/-- The value, from ids that ascend: the result is the gradient of the arguments, which are left as they were. -/
theorem value (hA : ∀ c : Dev nD, Ascends (m ((c : Thread nD τ).loc main_arg6))) :
    θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v14 (Pipeline.mem_restRefs_of main_v14 (by decide) (by decide))).trans (result_read m hA c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_ids_ascend
public import proofs.«01_k».proof.Proof.K.Frame
public import proofs.«01_k».proof.Proof.KI.Frame
public import proofs.«01_k».proof.Proof.RI.Value
public import Idealize.ShloMosaic.Adequacy
public import Idealize.ShloMosaic.Init

@[expose] public section

noncomputable section

namespace Cert.Proof

open Idealize.ShloMosaic Idealize.SL.Sem Cert.Kernel

/-- The kernel terminates without a fault and leaves its arguments as they were. -/
theorem kernel_frame : Cert.quiescent_Kernel (hKernel := Cert.Kernel.Gen.facts) (hPre_ids_ascend := Cert.Pre_ids_ascend.Gen.facts) :=
  fun m g h => Cert.Kernel.Own.frame m g fun c => Cert.Rows.ascends_of_fn _ _ _ _ _ _ _ (h c)

/-- So does the idealized kernel. -/
theorem kernelIdeal_frame : Cert.quiescent_KernelIdeal (hKernelIdeal := Cert.KernelIdeal.Gen.facts) (hPre_ids_ascend := Cert.Pre_ids_ascend.Gen.facts) :=
  fun m g h => Cert.KernelIdeal.Own.frame m g fun c => Cert.Rows.ascends_of_fn _ _ _ _ _ _ _ (h c)

/-- So does the reference, on every input. -/
theorem referenceIdeal_frame : Cert.quiescent_ReferenceIdeal (hReferenceIdeal := Cert.ReferenceIdeal.Gen.facts) :=
  fun m g _ => Cert.ReferenceIdeal.Gen.frame m g

/-- So it does, in particular, where the ids ascend. -/
theorem referenceIdeal_frame_ascend : Cert.quiescent_ReferenceIdeal_pre_ids_ascend (hReferenceIdeal := Cert.ReferenceIdeal.Gen.facts)
    (hPre_ids_ascend := Cert.Pre_ids_ascend.Gen.facts) :=
  fun m g _ => Cert.ReferenceIdeal.Gen.frame m g

/-- The idealized kernel and the reference leave the same result, the gradient of the arguments. -/
theorem algebraic : Cert.algebraic_KernelIdeal_ReferenceIdeal (hKernelIdeal := Cert.KernelIdeal.Gen.facts)
    (hReferenceIdeal := Cert.ReferenceIdeal.Gen.facts) (hPre_ids_ascend := Cert.Pre_ids_ascend.Gen.facts) := fun m g m' g' h e => by
  have hA : ∀ c, Cert.Rows.Ascends _ := fun c => Cert.Rows.ascends_of_fn _ _ _ _ _ _ _ (h c)
  have hA' : ∀ c : Dev Cert.ReferenceIdeal.nD,
      Cert.Rows.Ascends (m' ((c.tc : Thread Cert.ReferenceIdeal.nD Cert.ReferenceIdeal.τ).loc Cert.ReferenceIdeal.main_arg6)) :=
    fun c => by rw [(e c).2.2.2.2.2.2]; exact hA c
  have hr : ∀ c, Cert.ReferenceIdeal.Own.result m' c = Cert.KernelIdeal.Own.result m c := fun c => by
    obtain ⟨e0, e1, e2, e3, e4, e5, e6⟩ := e c
    unfold Cert.ReferenceIdeal.Own.result Cert.KernelIdeal.Own.result
    rw [e0, e1, e2, e3, e4, e5, e6]
  refine ⟨fun c => Cert.KernelIdeal.Own.result m c, Cert.KernelIdeal.Own.value m g hA, ?_⟩
  exact (θ_run Cert.ReferenceIdeal.defs _ _).mono (fun r hv c => ⟨(hv c).1.trans (hr c), (hv c).2⟩) (Cert.ReferenceIdeal.Own.value m' g' hA')

/-- All the claims together. -/
theorem claim : Cert.Claim := ⟨Cert.Kernel.Gen.facts, Cert.KernelIdeal.Gen.facts, Cert.ReferenceIdeal.Gen.facts, Cert.Pre_ids_ascend.Gen.facts,
  kernel_frame, kernelIdeal_frame, referenceIdeal_frame, referenceIdeal_frame_ascend, trivial, algebraic⟩

end Cert.Proof

end
